-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_beta_finite [hPre_beta_finite : Cert.Pre_beta_finite.Facts] (m : (ℓ : Loc Cert.KernelIdeal.nD Cert.KernelIdeal.τ Cert.KernelIdeal.sig) → Buf (Elt Ideal) ℓ) : Prop :=
  ∀ c : Dev Cert.KernelIdeal.nD,
    (Cert.Pre_beta_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_beta_finite [hPre_beta_finite : Cert.Pre_beta_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_beta_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_beta_finite [hKernelIdeal : Cert.KernelIdeal.Facts] [hPre_beta_finite : Cert.Pre_beta_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_beta_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_beta_finite [hReferenceIdeal : Cert.ReferenceIdeal.Facts] [hPre_beta_finite : Cert.Pre_beta_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_beta_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_beta_finite [hKernelIdeal : Cert.KernelIdeal.Facts] [hReferenceIdeal : Cert.ReferenceIdeal.Facts] [hPre_beta_finite : Cert.Pre_beta_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_beta_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_beta_finite : Cert.Pre_beta_finite.Facts),
    quiescent_Kernel (hKernel := hKernel)
    ∧ quiescent_KernelIdeal (hKernelIdeal := hKernelIdeal)
    ∧ quiescent_KernelIdeal_pre_beta_finite (hKernelIdeal := hKernelIdeal) (hPre_beta_finite := hPre_beta_finite)
    ∧ quiescent_ReferenceIdeal (hReferenceIdeal := hReferenceIdeal)
    ∧ quiescent_ReferenceIdeal_pre_beta_finite (hReferenceIdeal := hReferenceIdeal) (hPre_beta_finite := hPre_beta_finite)
    ∧ preserves_Kernel_KernelIdeal
    ∧ algebraic_KernelIdeal_ReferenceIdeal_pre_beta_finite (hKernelIdeal := hKernelIdeal) (hReferenceIdeal := hReferenceIdeal) (hPre_beta_finite := hPre_beta_finite)
-- ==== Pre_beta_finite.lean ====
abbrev S32x32768x64 : Shape := ⟨3, ![32, 32768, 64]⟩
abbrev S32x8x64 : Shape := ⟨3, ![32, 8, 64]⟩
abbrev S32x8 : Shape := ⟨2, ![32, 8]⟩
abbrev S64x512 : Shape := ⟨2, ![64, 512]⟩
abbrev S64 : Shape := ⟨1, ![64]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel

variable [Facts]

def fn {F : FTy → Type} [FloatOps F] (main_arg0 : FVec F S32x32768x64 .f32) (main_arg1 : FVec F S32x8x64 .f32) (main_arg2 : FVec F S32x8 .f32) (main_arg3 : FVec F S64x512 .f32) (main_arg4 : FVec F S64 .f32) : IVec S_ 1 :=
  let main_v0 : FVec F S32x8 .f32 := Host.absf main_arg2
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_c : IVec S_ 1 := constantI S_ 1 1#1
  let main_v3 : IVec S_ 1 := (fun x v => Host.reduce IntOp.andi x v reducesTo_S32x8_S_d0_1 h_S_) main_v2 main_c
  main_v3
-- ==== Kernel.lean ====
abbrev S32x32768x64 : Shape := ⟨3, ![32, 32768, 64]⟩
abbrev S32x8x64 : Shape := ⟨3, ![32, 8, 64]⟩
abbrev S32x8 : Shape := ⟨2, ![32, 8]⟩
abbrev S64x512 : Shape := ⟨2, ![64, 512]⟩
abbrev S64 : Shape := ⟨1, ![64]⟩
abbrev S32x1x8 : Shape := ⟨3, ![32, 1, 8]⟩
abbrev S64x8x64 : Shape := ⟨3, ![64, 8, 64]⟩
abbrev S8x64x64 : Shape := ⟨3, ![8, 64, 64]⟩
abbrev S1x64 : Shape := ⟨2, ![1, 64]⟩
abbrev S32x1x64 : Shape := ⟨3, ![32, 1, 64]⟩
abbrev S32x8x256x128 : Shape := ⟨4, ![32, 8, 256, 128]⟩
abbrev S1x32768x64 : Shape := ⟨3, ![1, 32768, 64]⟩
abbrev S1x8x64 : Shape := ⟨3, ![1, 8, 64]⟩
abbrev S1x1x8 : Shape := ⟨3, ![1, 1, 8]⟩
abbrev S1x1x64 : Shape := ⟨3, ![1, 1, 64]⟩
abbrev S1x8x256x128 : Shape := ⟨4, ![1, 8, 256, 128]⟩
abbrev S8x32x256 : Shape := ⟨3, ![8, 32, 256]⟩
abbrev S8x32x128 : Shape := ⟨3, ![8, 32, 128]⟩
abbrev S256x128 : Shape := ⟨2, ![256, 128]⟩
abbrev S32768x64 : Shape := ⟨2, ![32768, 64]⟩
abbrev S8x64 : Shape := ⟨2, ![8, 64]⟩
abbrev S1x8 : Shape := ⟨2, ![1, 8]⟩
abbrev S8 : Shape := ⟨1, ![8]⟩
abbrev S8x1 : Shape := ⟨2, ![8, 1]⟩
abbrev S1x4096x64 : Shape := ⟨3, ![1, 4096, 64]⟩
abbrev S4096x64 : Shape := ⟨2, ![4096, 64]⟩
abbrev S32x128x64 : Shape := ⟨3, ![32, 128, 64]⟩
abbrev S32x128 : Shape := ⟨2, ![32, 128]⟩
abbrev S8x32768 : Shape := ⟨2, ![8, 32768]⟩
abbrev S8x256x128 : Shape := ⟨3, ![8, 256, 128]⟩
abbrev S8x1x1 : Shape := ⟨3, ![8, 1, 1]⟩
abbrev S1x256x128 : Shape := ⟨3, ![1, 256, 128]⟩
abbrev S8x256 : Shape := ⟨2, ![8, 256]⟩
abbrev S8x1x256 : Shape := ⟨3, ![8, 1, 256]⟩
abbrev S1x32x256 : Shape := ⟨3, ![1, 32, 256]⟩
abbrev S32x256 : Shape := ⟨2, ![32, 256]⟩
abbrev S1x32x128 : Shape := ⟨3, ![1, 32, 128]⟩
abbrev S8x32 : Shape := ⟨2, ![8, 32]⟩
abbrev S128x128 : Shape := ⟨2, ![128, 128]⟩
abbrev S2048x128 : Shape := ⟨2, ![2048, 128]⟩
abbrev S256x256 : Shape := ⟨2, ![256, 256]⟩
abbrev S8x256x1 : Shape := ⟨3, ![8, 256, 1]⟩
abbrev S32x64 : Shape := ⟨2, ![32, 64]⟩
abbrev S32x8x32768 : Shape := ⟨3, ![32, 8, 32768]⟩

abbrev nBuf : Space → Nat
  | .hbm => 13
  | .vmem => 15
  | .smem => 0
  | _ => 0

abbrev bufTy : (tb : Table) → Fin (tcTables nBuf tb) → BufTy
  | .hbm, ⟨0, _⟩ => ⟨S32x32768x64, .f32⟩
  | .hbm, ⟨1, _⟩ => ⟨S32x8x64, .f32⟩
  | .hbm, ⟨2, _⟩ => ⟨S32x8, .f32⟩
  | .hbm, ⟨3, _⟩ => ⟨S64x512, .f32⟩
  | .hbm, ⟨4, _⟩ => ⟨S64, .f32⟩
  | .hbm, ⟨5, _⟩ => ⟨S32x1x8, .f32⟩
  | .hbm, ⟨6, _⟩ => ⟨S64x8x64, .f32⟩
  | .hbm, ⟨7, _⟩ => ⟨S8x64x64, .f32⟩
  | .hbm, ⟨8, _⟩ => ⟨S1x64, .f32⟩
  | .hbm, ⟨9, _⟩ => ⟨S32x1x64, .f32⟩
  | .hbm, ⟨10, _⟩ => ⟨S32x8x256x128, .f32⟩
  | .hbm, ⟨11, _⟩ => ⟨S32x64, .f32⟩
  | .hbm, ⟨12, _⟩ => ⟨S32x8x32768, .f32⟩
  | .local _ .vmem, ⟨0, _⟩ => ⟨S1x32768x64, .f32⟩
  | .local _ .vmem, ⟨1, _⟩ => ⟨S1x32768x64, .f32⟩
  | .local _ .vmem, ⟨2, _⟩ => ⟨S1x8x64, .f32⟩
  | .local _ .vmem, ⟨3, _⟩ => ⟨S1x8x64, .f32⟩
  | .local _ .vmem, ⟨4, _⟩ => ⟨S1x1x8, .f32⟩
  | .local _ .vmem, ⟨5, _⟩ => ⟨S1x1x8, .f32⟩
  | .local _ .vmem, ⟨6, _⟩ => ⟨S8x64x64, .f32⟩
  | .local _ .vmem, ⟨7, _⟩ => ⟨S1x64, .f32⟩
  | .local _ .vmem, ⟨8, _⟩ => ⟨S1x1x64, .f32⟩
  | .local _ .vmem, ⟨9, _⟩ => ⟨S1x1x64, .f32⟩
  | .local _ .vmem, ⟨10, _⟩ => ⟨S1x8x256x128, .f32⟩
  | .local _ .vmem, ⟨11, _⟩ => ⟨S1x8x256x128, .f32⟩
  | .local _ .vmem, ⟨12, _⟩ => ⟨S8x32x256, .f32⟩
  | .local _ .vmem, ⟨13, _⟩ => ⟨S8x32x128, .f32⟩
  | .local _ .vmem, ⟨14, _⟩ => ⟨S256x128, .f32⟩
  | _, _ => ⟨S32x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v97 : BitVec 32 := Scalar.addi c0_i32 c32_i32
  let c1_i32 : BitVec 32 := 1#32
  ⟨c0_i32, v97, c1_i32⟩
def k0_off1 (k0_t1 : Fin k0_t1_loop.trips) : Fin 3 → Nat :=
  let c0_134 : Index := 0#32
  let c0_i32 : BitVec 32 := 0#32
  let c1_i32 : BitVec 32 := 1#32
  let arg11 : BitVec 32 := Scf.iv c0_i32 c1_i32 k0_t1
  let v256 : Index := Scalar.indexCast arg11
  let c0_135 : Index := 0#32
  ![0, v256.toNat, 0]
@[reducible] def k0_t2_loop : Scf.Loop 32 :=
  let c0_i32_104 : BitVec 32 := 0#32
  let c32_i32_105 : BitVec 32 := 32#32
  let v166 : BitVec 32 := Scalar.addi c0_i32_104 c32_i32_105
  let c1_i32_106 : BitVec 32 := 1#32
  ⟨c0_i32_104, v166, c1_i32_106⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S32x32768x64 : Shape := ⟨3, ![32, 32768, 64]⟩
abbrev S32x8x64 : Shape := ⟨3, ![32, 8, 64]⟩
abbrev S32x8 : Shape := ⟨2, ![32, 8]⟩
abbrev S64x512 : Shape := ⟨2, ![64, 512]⟩
abbrev S64 : Shape := ⟨1, ![64]⟩
abbrev S_ : Shape := ⟨0, ![]⟩
abbrev S32x8x1 : Shape := ⟨3, ![32, 8, 1]⟩
abbrev S32x32768 : Shape := ⟨2, ![32, 32768]⟩
abbrev S32x8x32768 : Shape := ⟨3, ![32, 8, 32768]⟩
abbrev S32x1x32768 : Shape := ⟨3, ![32, 1, 32768]⟩
abbrev S256x32768 : Shape := ⟨2, ![256, 32768]⟩
abbrev S256x32 : Shape := ⟨2, ![256, 32]⟩
abbrev S256 : Shape := ⟨1, ![256]⟩
abbrev S256x1 : Shape := ⟨2, ![256, 1]⟩
abbrev S256x32x1 : Shape := ⟨3, ![256, 32, 1]⟩
abbrev S256x32x2 : Shape := ⟨3, ![256, 32, 2]⟩
abbrev S32x512 : Shape := ⟨2, ![32, 512]⟩
abbrev S512x64 : Shape := ⟨2, ![512, 64]⟩
abbrev S32x64 : Shape := ⟨2, ![32, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S32x32768x64, .f32⟩
  | .hbm, ⟨1, _⟩ => ⟨S32x8x64, .f32⟩
  | .hbm, ⟨2, _⟩ => ⟨S32x8, .f32⟩
  | .hbm, ⟨3, _⟩ => ⟨S64x512, .f32⟩
  | .hbm, ⟨4, _⟩ => ⟨S64, .f32⟩
  | .hbm, ⟨5, _⟩ => ⟨S32x8x64, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S32x32768x64, .f32⟩
  | .hbm, ⟨15, _⟩ => ⟨S_, .f32⟩
  | .hbm, ⟨16, _⟩ => ⟨S32x32768, .f32⟩
  | .hbm, ⟨17, _⟩ => ⟨S32x32768, .f32⟩
  | .hbm, ⟨18, _⟩ => ⟨S_, .f32⟩
  | .hbm, ⟨19, _⟩ => ⟨S_, .f32⟩
  | .hbm, ⟨20, _⟩ => ⟨S32x32768, .f32⟩
  | .hbm, ⟨21, _⟩ => ⟨S32x32768, .f32⟩
  | .hbm, ⟨22, _⟩ => ⟨S32x8x32768, .f32⟩
  | .hbm, ⟨23, _⟩ => ⟨S32x1x32768, .f32⟩
  | .hbm, ⟨24, _⟩ => ⟨S32x8x32768, .f32⟩
  | .hbm, ⟨25, _⟩ => ⟨S32x8x32768, .f32⟩
  | .hbm, ⟨26, _⟩ => ⟨S32x8x32768, .f32⟩
  | .hbm, ⟨27, _⟩ => ⟨S_, .f32⟩
  | .hbm, ⟨28, _⟩ => ⟨S32x8x32768, .f32⟩
  | .hbm, ⟨29, _⟩ => ⟨S32x8x32768, .f32⟩
  | .hbm, ⟨30, _⟩ => ⟨S32x8x32768, .f32⟩
  | .hbm, ⟨31, _⟩ => ⟨S32x8x1, .f32⟩
  | .hbm, ⟨32, _⟩ => ⟨S32x8x32768, .f32⟩
  | .hbm, ⟨33, _⟩ => ⟨S32x8x32768, .f32⟩
  | .hbm, ⟨34, _⟩ => ⟨S256x32768, .f32⟩
  | .hbm, ⟨35, _⟩ => ⟨S256x32, .f32⟩
  | .hbm, ⟨36, _⟩ => ⟨S256x32, .i32⟩
  | .hbm, ⟨37, _⟩ => ⟨S_, .i1⟩
  | .hbm, ⟨38, _⟩ => ⟨S256x32768, .i1⟩
  | .hbm, ⟨39, _⟩ => ⟨S256, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S_, .i32⟩
  | .hbm, ⟨45, _⟩ => ⟨S256x1, .i32⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x32, .i32⟩
  | .hbm, ⟨50, _⟩ => ⟨S256x32, .i1⟩
  | .hbm, ⟨51, _⟩ => ⟨S_, .i32⟩
  | .hbm, ⟨52, _⟩ => ⟨S256x32, .i32⟩
  | .hbm, ⟨53, _⟩ => ⟨S256x32, .i32⟩
  | .hbm, ⟨54, _⟩ => ⟨S256x32, .i32⟩
  | .hbm, ⟨55, _⟩ => ⟨S256x32, .i32⟩
  | .hbm, ⟨56, _⟩ => ⟨S256x32x1, .i32⟩
  | .hbm, ⟨57, _⟩ => ⟨S256x32x1, .i32⟩
  | .hbm, ⟨58, _⟩ => ⟨S256x32x2, .i32⟩
  | .hbm, ⟨59, _⟩ => ⟨S_, .i1⟩
  | .hbm, ⟨60, _⟩ => ⟨S256x32, .i1⟩
  | .hbm, ⟨61, _⟩ => ⟨S256x32768, .i1⟩
  | .hbm, ⟨62, _⟩ => ⟨S32x8x32768, .i1⟩
  | .hbm, ⟨63, _⟩ => ⟨S_, .f32⟩
  | .hbm, ⟨64, _⟩ => ⟨S_, .f32⟩
  | .hbm, ⟨65, _⟩ => ⟨S32x8x32768, .f32⟩
  | .hbm, ⟨66, _⟩ => ⟨S32x8x32768, .f32⟩
  | .hbm, ⟨67, _⟩ => ⟨S_, .f32⟩
  | .hbm, ⟨68, _⟩ => ⟨S32x8, .f32⟩
  | .hbm, ⟨69, _⟩ => ⟨S_, .f32⟩
  | .hbm, ⟨70, _⟩ => ⟨S32x8, .f32⟩
  | .hbm, ⟨71, _⟩ => ⟨S32x8, .f32⟩
  | .hbm, ⟨72, _⟩ => ⟨S32x8x1, .f32⟩
  | .hbm, ⟨73, _⟩ => ⟨S32x8x32768, .f32⟩
  | .hbm, ⟨74, _⟩ => ⟨S32x8x32768, .f32⟩
  | .hbm, ⟨75, _⟩ => ⟨S32x8x32768, .f32⟩
  | .hbm, ⟨76, _⟩ => ⟨S_, .f32⟩
  | .hbm, ⟨77, _⟩ => ⟨S32x8, .f32⟩
  | .hbm, ⟨78, _⟩ => ⟨S32x8x1, .f32⟩
  | .hbm, ⟨79, _⟩ => ⟨S32x8x32768, .f32⟩
  | .hbm, ⟨80, _⟩ => ⟨S32x8x32768, .f32⟩
  | .hbm, ⟨81, _⟩ => ⟨S32x8x64, .f32⟩
  | .hbm, ⟨82, _⟩ => ⟨S32x512, .f32⟩
  | .hbm, ⟨83, _⟩ => ⟨S512x64, .f32⟩
  | .hbm, ⟨84, _⟩ => ⟨S32x64, .f32⟩
  | .hbm, ⟨85, _⟩ => ⟨S1x64, .f32⟩
  | .hbm, ⟨86, _⟩ => ⟨S32x64, .f32⟩
  | .hbm, ⟨87, _⟩ => ⟨S32x64, .f32⟩
  | _, _ => ⟨S32x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v1 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_v2 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_call4_v0 : Ref sig .tc := ⟨.hbm, 64, rfl⟩
abbrev main_call4_v1 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_cst_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Proof.Stages.lean ====
module

public import proofs.«01_k».proof.Proof.Gen.KernelIdeal.Skeleton
public import Idealize.ShloMosaic.Lib.Exec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block maxima the search loop carries before trip `k`: each trip replaces the maximum of the block it chose. -/
def carried (init : FVec F S8x256 .f32) : ℕ → FVec F S8x256 .f32
  | 0 => init
  | k + 1 => k0_pay20 (carried init k)

/-- The rows of choices the search loop leaves: row `j` marks, per head, the block trip `j` chose. -/
def chosen (init : FVec F S8x256 .f32) : Vec F S8x32x256 .f32 :=
  fun y => k0_pay19 (carried init (y 1).val) (ix3 (y 0) (0 : Fin 1) (y 2))

/-- Rows `4096 g … 4096 g + 4095` of one memory block. -/
def chunk (x0 : Vec F S1x32768x64 .f32) (g : Fin 8) : Vec F S1x4096x64 .f32 :=
  fun y => x0 (ix3 (0 : Fin 1) (⟨4096 * g.val + (y 1).val, by have : (y 1).val < 4096 := (y 1).isLt; omega⟩ : Fin 32768) (y 2))

/-- The squared row lengths of one memory block, as 256 rows of 128: what the eight chunked stores leave. -/
def msqArr (x0 : Vec F S1x32768x64 .f32) : Vec F S256x128 .f32 :=
  fun y => k0_pay5 (chunk x0 ⟨(y 0).val / 32, by have : (y 0).val < 256 := (y 0).isLt; omega⟩)
    (ix2 (⟨(y 0).val % 32, Nat.mod_lt _ (by decide)⟩ : Fin 32) (y 1))

/-- Head `h`'s candidates: its choice rows contracted with its similarities. -/
def headCand (sim : FVec F S8x256x128 .f32) : Fin 8 → Vec F S1x32x256 .f32 → FVec F S1x32x128 .f32
  | 0 => fun r => k0_pay21 sim r
  | 1 => fun r => k0_pay22 sim r
  | 2 => fun r => k0_pay23 sim r
  | 3 => fun r => k0_pay25 (k0_pay24 sim r)
  | 4 => fun r => k0_pay26 sim r
  | 5 => fun r => k0_pay27 sim r
  | 6 => fun r => k0_pay28 sim r
  | 7 => fun r => k0_pay30 (k0_pay29 sim r)

/-- Head `h` of the choice rows. -/
def headRows (oh : Vec F S8x32x256 .f32) (h : Fin 8) : Vec F S1x32x256 .f32 := fun z => oh (ix3 h (z 1) (z 2))

/-- The candidates of all eight heads: what the eight stores leave. -/
def candArr (sim : FVec F S8x256x128 .f32) (oh : Vec F S8x32x256 .f32) : Vec F S8x32x128 .f32 :=
  fun y => headCand sim (y 0) (headRows oh (y 0)) (ix3 (0 : Fin 1) (y 1) (y 2))

section Stages

variable (x0 : Vec F S1x32768x64 .f32) (x1 : Vec F S1x8x64 .f32) (x2 : Vec F S1x1x8 .f32) (x3 : Vec F S8x64x64 .f32) (x4 : Vec F S1x64 .f32)

/-- The scaled similarities of one batch row. -/
def simArr : FVec F S8x256x128 .f32 := k0_pay15 (k0_pay1 x0) (k0_pay2 x1) (k0_pay3 x2) (k0_pay4 x1) (msqArr x0)
/-- Their maximum over each block of 128. -/
def bmArr : FVec F S8x256 .f32 := k0_pay16 (k0_pay1 x0) (k0_pay2 x1) (k0_pay3 x2) (k0_pay4 x1) (msqArr x0)
/-- Their maximum per head. -/
def rmArr : FVec F S8x1 .f32 := k0_pay17 (k0_pay1 x0) (k0_pay2 x1) (k0_pay3 x2) (k0_pay4 x1) (msqArr x0)
/-- The candidates: the 32 blocks chosen per head. -/
def candOf : Vec F S8x32x128 .f32 := candArr (simArr x0 x1 x2) (chosen (bmArr x0 x1 x2))
/-- What the threshold loop carries at its exit, from the candidates and the head maxima. -/
def thrLoop (cand : Vec F S8x32x128 .f32) (rm : FVec F S8x1 .f32) : Vec F S8x32x128 .f32 × FVec F S8x1x1 .f32 × FVec F S8x1x1 .f32 :=
  Scf.fold (n := k0_t2_loop.trips) (fun _ a => (k0_pay37 a.1, k0_pay35 a.1 a.2.1 a.2.2, k0_pay36 a.1 a.2.2)) (cand, k0_pay31 rm, k0_pay32)
/-- The threshold per head. -/
def thrArr : FVec F S8x1x1 .f32 := (thrLoop (candOf x0 x1 x2) (rmArr x0 x1 x2)).2.1
/-- The second output's block: the attention weights of one batch row. -/
def out6 : FVec F S1x8x256x128 .f32 :=
  k0_pay46 (simArr x0 x1 x2) (thrArr x0 x1 x2) (k0_pay38 (rmArr x0 x1 x2)) (k0_pay40 (candOf x0 x1 x2) (thrArr x0 x1 x2))
    (k0_pay41 (rmArr x0 x1 x2) (candOf x0 x1 x2) (thrArr x0 x1 x2)) (k0_pay42 (simArr x0 x1 x2) (thrArr x0 x1 x2))
    (k0_pay43 (simArr x0 x1 x2) (thrArr x0 x1 x2)) (k0_pay44 (simArr x0 x1 x2) (thrArr x0 x1 x2)) (iota .tc S256x256 32 [0] iota_S256x256_d0_w32)
/-- The first output's block: the projected read of one batch row. -/
def out5 : FVec F S1x1x64 .f32 :=
  k0_pay47 (k0_pay1 x0) (simArr x0 x1 x2) (thrArr x0 x1 x2) (k0_pay38 (rmArr x0 x1 x2)) (k0_pay40 (candOf x0 x1 x2) (thrArr x0 x1 x2))
    (k0_pay41 (rmArr x0 x1 x2) (candOf x0 x1 x2) (thrArr x0 x1 x2)) (k0_pay42 (simArr x0 x1 x2) (thrArr x0 x1 x2))
    (k0_pay43 (simArr x0 x1 x2) (thrArr x0 x1 x2)) (k0_pay44 (simArr x0 x1 x2) (thrArr x0 x1 x2)) (iota .tc S256x256 32 [0] iota_S256x256_d0_w32) x3 x4

end Stages

end Cert.KernelIdeal.Hand

end
-- ==== Proof.BodyRun.lean ====
module

public import proofs.«01_k».proof.Proof.Gen.KernelIdeal.Skeleton
public import proofs.«01_k».proof.Proof.Gen.KernelIdeal.Frame
public import proofs.«01_k».proof.Proof.Stages
public import Idealize.ShloMosaic.Lib.WritesUnit
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option warn.classDefReducibility false in
/-- THE SEARCH LOOP BY ITS INVARIANT: before trip `k` the rows of the trips before are written as `chosen` states, and
    the maxima carried are `carried init k`. -/
@[sl_loop] def searchInv (c : Dev nD) (E : Set ℕ) (i : grid0.Coords) (arg1 : Memref sig .tc .vmem S1x32768x64 .f32) (harg1 : arg1.IsWhole) (arg2 : Memref sig .tc .vmem S1x8x64 .f32) (harg2 : arg2.IsWhole) (arg3 : Memref sig .tc .vmem S1x1x8 .f32) (harg3 : arg3.IsWhole) (arg4 : Memref sig .tc .vmem S8x64x64 .f32) (harg4 : arg4.IsWhole) (arg5 : Memref sig .tc .vmem S1x64 .f32) (harg5 : arg5.IsWhole) (arg6 : Memref sig .tc .vmem S1x1x64 .f32) (harg6 : arg6.IsWhole) (arg7 : Memref sig .tc .vmem S1x8x256x128 .f32) (harg7 : arg7.IsWhole) (arg8 : Memref sig .tc .vmem S8x32x256 .f32) (harg8 : arg8.IsWhole) (arg9 : Memref sig .tc .vmem S8x32x128 .f32) (harg9 : arg9.IsWhole) (arg10 : Memref sig .tc .vmem S256x128 .f32) (harg10 : arg10.IsWhole)
    (v1 : FVec F S32768x64 .f32) (v3 : FVec F S8x64 .f32) (v5 : FVec F S1x8 .f32) (v11 : FVec F S8x1 .f32) (v62 : FVec F S32x128x64 .f32) (init : FVec F S8x256 .f32) :
    Idealize.ShloMosaic.LoopInv (M := MT nD τ sig Unit (Elt F) ℕ (UR sig nD τ) ℕ) Idealize.ShloMosaic.frame (wpE defs₀ Variants.none (c : Thread nD τ) none) E
      k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 v1 v3 v5 v11 v62) where
  inv k acc := iprop((∃ f, (arg8.view.loc (c : Thread nD τ) ↦[arg8.view.set]{fullShare} f)
      ∗ ⌜∀ y : S8x32x256.Idx, (y 1).val < k → arg8.view.read (Elt F) f y = chosen init y⌝) ∗ ⌜acc = carried init k⌝)
  step k acc := by
    iintro ⟨⟨%f, HW, %hf⟩, %hacc⟩
    subst hacc
    unfold k0_t1_body
    sl_exec
    sl_step
    isplitl [HW]
    · iexists _; isplitl [HW]; · iexact HW
      ipureintro
      intro y hy
      rw [View.read_writes_cons_unit _ _ _ _ _ _ (k0_off1_eq k)]
      split
      · next h =>
        have h1 : k.val ≤ (y 1).val ∧ (y 1).val < k.val + 1 := h 1
        have e : (y 1).val = k.val := by omega
        show k0_pay19 (carried init k.val) _ = k0_pay19 (carried init (y 1).val) _
        rw [e]
        refine congrArg _ (funext fun a => Fin.ext ?_)
        rw [Rect.unitLocal_val]
        fin_cases a
        · rfl
        · show (y 1).val - k.val = 0; omega
        · rfl
      · next h =>
        refine hf y ?_
        by_contra hlt
        refine h fun a => ?_
        fin_cases a
        · exact ⟨Nat.zero_le _, by simpa using (y 0).isLt⟩
        · show k.val ≤ (y 1).val ∧ (y 1).val < k.val + 1; omega
        · exact ⟨Nat.zero_le _, by simpa using (y 2).isLt⟩
    ipureintro; rfl

/-! The eight chunks' stores are one function of the chunk. -/

/-- The second chunk stores what the first would of the same rows. -/
theorem pay6_eq (v : Vec F S1x4096x64 .f32) : k0_pay6 v = k0_pay5 v := by unfold k0_pay6 k0_pay5; rfl
/-- So does the third chunk. -/
theorem pay8_eq (v : Vec F S1x4096x64 .f32) : k0_pay8 (k0_pay7 v) = k0_pay5 v := by unfold k0_pay8 k0_pay7 k0_pay5; rfl
/-- So does the fourth chunk. -/
theorem pay9_eq (v : Vec F S1x4096x64 .f32) : k0_pay9 v = k0_pay5 v := by unfold k0_pay9 k0_pay5; rfl
/-- So does the fifth chunk. -/
theorem pay10_eq (v : Vec F S1x4096x64 .f32) : k0_pay10 v = k0_pay5 v := by unfold k0_pay10 k0_pay5; rfl
/-- So does the sixth chunk. -/
theorem pay11_eq (v : Vec F S1x4096x64 .f32) : k0_pay11 v = k0_pay5 v := by unfold k0_pay11 k0_pay5; rfl
/-- So does the seventh chunk. -/
theorem pay13_eq (v : Vec F S1x4096x64 .f32) : k0_pay13 (k0_pay12 v) = k0_pay5 v := by unfold k0_pay13 k0_pay12 k0_pay5; rfl
/-- So does the eighth chunk. -/
theorem pay14_eq (v : Vec F S1x4096x64 .f32) : k0_pay14 v = k0_pay5 v := by unfold k0_pay14 k0_pay5; rfl

/-- One chunk's stored squares are the rows of `msqArr` it covers. -/
theorem msq_piece (x0 : Vec F S1x32768x64 .f32) (g : Fin 8) (v : Vec F S1x4096x64 .f32)
    (hv : v = chunk x0 g) (x : S32x128.Idx) (y : S256x128.Idx) (h0 : (y 0).val = 32 * g.val + (x 0).val) (h1 : (y 1).val = (x 1).val) :
    k0_pay5 v x = msqArr x0 y := by
  subst hv
  have hx : (x 0).val < 32 := (x 0).isLt
  unfold msqArr
  have e : (⟨(y 0).val / 32, by have : (y 0).val < 256 := (y 0).isLt; omega⟩ : Fin 8) = g := Fin.ext (by show (y 0).val / 32 = g.val; omega)
  rw [e]
  refine congrArg _ (funext fun a => Fin.ext ?_)
  fin_cases a
  · show (x 0).val = (y 0).val % 32; omega
  · exact h1.symm

/-- A load of rows `o …` of one memory block is a chunk of it. -/
theorem ld_chunk (x0 : Vec F S1x32768x64 .f32) (g : Fin 8) {o : ℕ} (ho : o = 4096 * g.val)
    (inb : ∀ a, (![0, o, 0] : Fin 3 → ℕ) a + S1x4096x64.size a ≤ S1x32768x64.size a) :
    View.ld x0 (Rect.unit (s := S1x32768x64) ![0, o, 0] S1x4096x64.size inb) = chunk x0 g := by
  subst ho
  funext y
  show x0 _ = x0 _
  refine congrArg x0 (funext fun a => Fin.ext ?_)
  fin_cases a
  · show 0 + 1 * (y 0).val = 0; have : (y 0).val < 1 := (y 0).isLt; omega
  · show 4096 * g.val + 1 * (y 1).val = 4096 * g.val + (y 1).val; omega
  · show 0 + 1 * (y 2).val = (y 2).val; omega

/-- A load of the whole shape reads the contents. -/
theorem ld_full {s : Shape} {e : EltTy} (X : s.Idx → Elt F e) {off : Fin s.rank → ℕ} (inb : ∀ a, off a + s.size a ≤ s.size a) :
    View.ld X (Rect.unit (s := s) off s.size inb) = X :=
  View.ld_unit_zero (funext fun a => by have := inb a; omega) inb X

/-- A whole store read back at any loaded place is what was stored, for stores that agree with one array and cover it. -/
theorem readCov_whole {sp : Space} {s : Shape} (v : View sig .tc sp s .f32) (L : List (View.Piece (Elt F) s .f32))
    (G : s.Idx → Elt F .f32) {off : Fin s.rank → ℕ} (inb : ∀ a, off a + s.size a ≤ s.size a)
    (hG : ∀ p ∈ L, ∀ x : p.1.shape.Idx, p.2 x = G (p.1.emb x)) (hc : ∀ y : s.Idx, ∃ p ∈ L, y ∈ p.1.set) :
    v.readCov L (Rect.unit (s := s) off s.size inb).toLoadRect = G := by
  obtain rfl : off = fun _ => 0 := funext fun a => by have := inb a; omega
  funext y
  have e : (Rect.unit (s := s) (fun _ => 0) s.size inb).toLoadRect.idx y = y := funext fun a => Fin.ext (by
    show 0 + 1 * (y a).val = (y a).val; omega)
  show v.read (Elt F) (v.writes (Elt F) v.junk L) ((Rect.unit (s := s) (fun _ => 0) s.size inb).toLoadRect.idx y) = G y
  rw [e]
  exact View.read_writes_apply_of_pieces _ _ G L hG y (hc y)

/-- The candidates that the body stores for the first head are `headCand` of that head. -/
theorem headCand_0 (sim : FVec F S8x256x128 .f32) (r : Vec F S1x32x256 .f32) : headCand sim 0 r = k0_pay21 sim r := by unfold headCand; rfl
/-- The candidates that the body stores for the second head are `headCand` of that head. -/
theorem headCand_1 (sim : FVec F S8x256x128 .f32) (r : Vec F S1x32x256 .f32) : headCand sim 1 r = k0_pay22 sim r := by unfold headCand; rfl
/-- The candidates that the body stores for the third head are `headCand` of that head. -/
theorem headCand_2 (sim : FVec F S8x256x128 .f32) (r : Vec F S1x32x256 .f32) : headCand sim 2 r = k0_pay23 sim r := by unfold headCand; rfl
/-- The candidates that the body stores for the fourth head are `headCand` of that head. -/
theorem headCand_3 (sim : FVec F S8x256x128 .f32) (r : Vec F S1x32x256 .f32) : headCand sim 3 r = k0_pay25 (k0_pay24 sim r) := by unfold headCand; rfl
/-- The candidates that the body stores for the fifth head are `headCand` of that head. -/
theorem headCand_4 (sim : FVec F S8x256x128 .f32) (r : Vec F S1x32x256 .f32) : headCand sim 4 r = k0_pay26 sim r := by unfold headCand; rfl
/-- The candidates that the body stores for the sixth head are `headCand` of that head. -/
theorem headCand_5 (sim : FVec F S8x256x128 .f32) (r : Vec F S1x32x256 .f32) : headCand sim 5 r = k0_pay27 sim r := by unfold headCand; rfl
/-- The candidates that the body stores for the seventh head are `headCand` of that head. -/
theorem headCand_6 (sim : FVec F S8x256x128 .f32) (r : Vec F S1x32x256 .f32) : headCand sim 6 r = k0_pay28 sim r := by unfold headCand; rfl
/-- The candidates that the body stores for the eighth head are `headCand` of that head. -/
theorem headCand_7 (sim : FVec F S8x256x128 .f32) (r : Vec F S1x32x256 .f32) : headCand sim 7 r = k0_pay30 (k0_pay29 sim r) := by unfold headCand; rfl

/-- One head's stored candidates are the rows of `candArr` they cover. -/
theorem cand_piece (sim : FVec F S8x256x128 .f32) (oh : Vec F S8x32x256 .f32) (g : Fin 8) (x : S1x32x128.Idx) (y : S8x32x128.Idx)
    (h0 : (y 0).val = g.val) (h1 : (y 1).val = (x 1).val) (h2 : (y 2).val = (x 2).val) :
    headCand sim g (headRows oh g) x = candArr sim oh y := by
  unfold candArr
  have e : y 0 = g := Fin.ext h0
  rw [e]
  refine congrArg _ (funext fun a => Fin.ext ?_)
  fin_cases a
  · show (x 0).val = 0; have : (x 0).val < 1 := (x 0).isLt; omega
  · exact h1.symm
  · exact h2.symm

/-- A load of head `g`'s choice rows. -/
theorem ld_rows (oh : Vec F S8x32x256 .f32) (g : Fin 8) {o : ℕ} (ho : o = g.val)
    (inb : ∀ a, (![o, 0, 0] : Fin 3 → ℕ) a + S1x32x256.size a ≤ S8x32x256.size a) :
    View.ld oh (Rect.unit (s := S8x32x256) ![o, 0, 0] S1x32x256.size inb) = headRows oh g := by
  subst ho
  funext y
  show oh _ = oh _
  refine congrArg oh (funext fun a => Fin.ext ?_)
  fin_cases a
  · show g.val + 1 * (y 0).val = g.val; have : (y 0).val < 1 := (y 0).isLt; omega
  · show 0 + 1 * (y 1).val = (y 1).val; omega
  · show 0 + 1 * (y 2).val = (y 2).val; omega

/-- The search loop runs 32 trips. -/
theorem trips1 : 32 = Scf.trips k0_t1_loop.lb k0_t1_loop.ub k0_t1_loop.st := by decide +kernel

set_option maxHeartbeats 1000000 in
/-- The body, run on whole buffers: it leaves its five inputs as they are, and its two outputs hold `out5` and `out6` of them. -/
theorem bodyRun (c : Dev nD) (i : grid0.Coords) (arg1 : Memref sig .tc .vmem S1x32768x64 .f32) (harg1 : arg1.IsWhole) (arg2 : Memref sig .tc .vmem S1x8x64 .f32) (harg2 : arg2.IsWhole) (arg3 : Memref sig .tc .vmem S1x1x8 .f32) (harg3 : arg3.IsWhole) (arg4 : Memref sig .tc .vmem S8x64x64 .f32) (harg4 : arg4.IsWhole) (arg5 : Memref sig .tc .vmem S1x64 .f32) (harg5 : arg5.IsWhole) (arg6 : Memref sig .tc .vmem S1x1x64 .f32) (harg6 : arg6.IsWhole) (arg7 : Memref sig .tc .vmem S1x8x256x128 .f32) (harg7 : arg7.IsWhole) (arg8 : Memref sig .tc .vmem S8x32x256 .f32) (harg8 : arg8.IsWhole) (arg9 : Memref sig .tc .vmem S8x32x128 .f32) (harg9 : arg9.IsWhole) (arg10 : Memref sig .tc .vmem S256x128 .f32) (harg10 : arg10.IsWhole)
    (x0 : Vec F S1x32768x64 .f32) (x1 : Vec F S1x8x64 .f32) (x2 : Vec F S1x1x8 .f32) (x3 : Vec F S8x64x64 .f32) (x4 : Vec F S1x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4) ∗ owns (c : Thread nD τ) arg7 fullShare (out6 x0 x1 x2) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec
    have l0 : bodyRun.sl.r c arg1 harg1 x0 = k0_pay1 x0 := by
      unfold bodyRun.sl.r; rw [View.readAt_eq_ld, harg1.read_unread, ld_full]
    have l1 : bodyRun.sl.r_1 c arg2 harg2 x1 = k0_pay2 x1 := by
      unfold bodyRun.sl.r_1; rw [View.readAt_eq_ld, harg2.read_unread, ld_full]
    have l2 : bodyRun.sl.r_2 c arg3 harg3 x2 = k0_pay3 x2 := by
      unfold bodyRun.sl.r_2; rw [View.readAt_eq_ld, harg3.read_unread, ld_full]
    have l3 : bodyRun.sl.r_3 c arg2 harg2 x1 = k0_pay4 x1 := by
      unfold bodyRun.sl.r_3; rw [View.readAt_eq_ld, harg2.read_unread, ld_full]
    have e76 : bodyRun.sl.v76 c arg1 harg1 arg10 x0 = msqArr x0 := by
      unfold bodyRun.sl.v76 bodyRun.sl.HS2_8
      refine readCov_whole _ _ _ _ ?_ ?_
      · intro p hp
        simp only [List.mem_cons, List.mem_nil_iff, _root_.or_false] at hp
        rcases hp with rfl | rfl | rfl | rfl | rfl | rfl | rfl | rfl <;> intro x
        · rw [pay14_eq]
          refine msq_piece x0 7 _ ?_ x _ ?_ ?_
          · rw [View.readAt_eq_ld, harg1.read_unread]; exact ld_chunk x0 7 rfl _
          · show 224 + 1 * (x 0).val = 32 * 7 + (x 0).val; omega
          · show 0 + 1 * (x 1).val = (x 1).val; omega
        · unfold bodyRun.sl.r_5
          rw [pay13_eq]
          refine msq_piece x0 6 _ ?_ x _ ?_ ?_
          · rw [View.readAt_eq_ld, harg1.read_unread]; exact ld_chunk x0 6 rfl _
          · show 192 + 1 * (x 0).val = 32 * 6 + (x 0).val; omega
          · show 0 + 1 * (x 1).val = (x 1).val; omega
        · rw [pay11_eq]
          refine msq_piece x0 5 _ ?_ x _ ?_ ?_
          · rw [View.readAt_eq_ld, harg1.read_unread]; exact ld_chunk x0 5 rfl _
          · show 160 + 1 * (x 0).val = 32 * 5 + (x 0).val; omega
          · show 0 + 1 * (x 1).val = (x 1).val; omega
        · rw [pay10_eq]
          refine msq_piece x0 4 _ ?_ x _ ?_ ?_
          · rw [View.readAt_eq_ld, harg1.read_unread]; exact ld_chunk x0 4 rfl _
          · show 128 + 1 * (x 0).val = 32 * 4 + (x 0).val; omega
          · show 0 + 1 * (x 1).val = (x 1).val; omega
        · rw [pay9_eq]
          refine msq_piece x0 3 _ ?_ x _ ?_ ?_
          · rw [View.readAt_eq_ld, harg1.read_unread]; exact ld_chunk x0 3 rfl _
          · show 96 + 1 * (x 0).val = 32 * 3 + (x 0).val; omega
          · show 0 + 1 * (x 1).val = (x 1).val; omega
        · unfold bodyRun.sl.r_4
          rw [pay8_eq]
          refine msq_piece x0 2 _ ?_ x _ ?_ ?_
          · rw [View.readAt_eq_ld, harg1.read_unread]; exact ld_chunk x0 2 rfl _
          · show 64 + 1 * (x 0).val = 32 * 2 + (x 0).val; omega
          · show 0 + 1 * (x 1).val = (x 1).val; omega
        · rw [pay6_eq]
          refine msq_piece x0 1 _ ?_ x _ ?_ ?_
          · rw [View.readAt_eq_ld, harg1.read_unread]; exact ld_chunk x0 1 rfl _
          · show 32 + 1 * (x 0).val = 32 * 1 + (x 0).val; omega
          · show 0 + 1 * (x 1).val = (x 1).val; omega
        · refine msq_piece x0 0 _ ?_ x _ ?_ ?_
          · rw [View.readAt_eq_ld, harg1.read_unread]; exact ld_chunk x0 0 rfl _
          · show 0 + 1 * (x 0).val = 32 * 0 + (x 0).val; omega
          · show 0 + 1 * (x 1).val = (x 1).val; omega
      · intro y
        have h0 : (y 0).val < 256 := (y 0).isLt
        have h1 : (y 1).val < 128 := (y 1).isLt
        simp only [List.mem_cons, List.mem_nil_iff, _root_.or_false, exists_eq_or_imp, exists_eq_left, Rect.mem_set_unit]
        simp [Fin.forall_fin_two]
        omega
    have e63 : bodyRun.sl.v163 c arg1 harg1 arg2 harg2 arg3 harg3 arg8 arg9 arg10 x0 x1 x2 fL0 = candOf x0 x1 x2 := by
      have e6 : bodyRun.sl.r_6 c arg1 harg1 arg2 harg2 arg3 harg3 arg10 x0 x1 x2 = simArr x0 x1 x2 := by
        unfold bodyRun.sl.r_6 simArr; rw [l0, l1, l2, l3, e76]
      have hrd : View.read (Elt F) arg8.view fL0 = chosen (bmArr x0 x1 x2) := by
        funext y
        have := hL1 y (lt_of_lt_of_eq (show (y 1).val < 32 from (y 1).isLt) trips1)
        rw [l0, l1, l2, l3, e76] at this
        exact this
      unfold bodyRun.sl.v163 bodyRun.sl.HS1_8
      refine readCov_whole _ _ _ _ ?_ ?_
      · intro p hp
        simp only [List.mem_cons, List.mem_nil_iff, _root_.or_false] at hp
        rcases hp with rfl | rfl | rfl | rfl | rfl | rfl | rfl | rfl <;> intro x
        · refine Eq.trans ?_ (cand_piece (simArr x0 x1 x2) (chosen (bmArr x0 x1 x2)) 7 x _ ?_ ?_ ?_)
          · unfold bodyRun.sl.r_9; rw [View.readAt_eq_ld, hrd, e6, ld_rows (chosen (bmArr x0 x1 x2)) 7 (o := 7) rfl, headCand_7]
          · show 7 + 1 * (x 0).val = 7; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 6 x _ ?_ ?_ ?_)
          · rw [View.readAt_eq_ld, hrd, e6, ld_rows (chosen (bmArr x0 x1 x2)) 6 (o := 6) rfl, headCand_6]
          · show 6 + 1 * (x 0).val = 6; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 5 x _ ?_ ?_ ?_)
          · rw [View.readAt_eq_ld, hrd, e6, ld_rows (chosen (bmArr x0 x1 x2)) 5 (o := 5) rfl, headCand_5]
          · show 5 + 1 * (x 0).val = 5; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 4 x _ ?_ ?_ ?_)
          · rw [View.readAt_eq_ld, hrd, e6, ld_rows (chosen (bmArr x0 x1 x2)) 4 (o := 4) rfl, headCand_4]
          · show 4 + 1 * (x 0).val = 4; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 3 x _ ?_ ?_ ?_)
          · unfold bodyRun.sl.r_8; rw [View.readAt_eq_ld, hrd, e6, ld_rows (chosen (bmArr x0 x1 x2)) 3 (o := 3) rfl, headCand_3]
          · show 3 + 1 * (x 0).val = 3; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 2 x _ ?_ ?_ ?_)
          · rw [View.readAt_eq_ld, hrd, e6, ld_rows (chosen (bmArr x0 x1 x2)) 2 (o := 2) rfl, headCand_2]
          · show 2 + 1 * (x 0).val = 2; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 1 x _ ?_ ?_ ?_)
          · rw [View.readAt_eq_ld, hrd, e6, ld_rows (chosen (bmArr x0 x1 x2)) 1 (o := 1) rfl, headCand_1]
          · show 1 + 1 * (x 0).val = 1; have : (x 0).val < 1 := (x 0).isLt; omega
          · show 0 + 1 * (x 1).val = (x 1).val; omega
          · show 0 + 1 * (x 2).val = (x 2).val; omega
        · refine Eq.trans ?_ (cand_piece (simArr x0 x1 x2) (chosen (bmArr x0 x1 x2)) 0 x _ ?_ ?_ ?_)
          · rw [View.readAt_eq_ld, hrd, e6, ld_rows (chosen (bmArr x0 x1 x2)) 0 (o := 0) rfl, headCand_0]
          · show 0 + 1 * (x 0).val = 0; have : (x 0).val < 1 := (x 0).isLt; omega
          · show 0 + 1 * (x 1).val = (x 1).val; omega
          · show 0 + 1 * (x 2).val = (x 2).val; omega
      · intro y
        have h0 : (y 0).val < 8 := (y 0).isLt
        have h1 : (y 1).val < 32 := (y 1).isLt
        have h2 : (y 2).val < 128 := (y 2).isLt
        simp only [List.mem_cons, List.mem_nil_iff, _root_.or_false, exists_eq_or_imp, exists_eq_left, Rect.mem_set_unit]
        simp [Fin.forall_fin_succ]
        omega
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_full]
      unfold bodyRun.sl.r_17 bodyRun.sl.r_16 bodyRun.sl.r_15 bodyRun.sl.r_14 bodyRun.sl.r_13 bodyRun.sl.r_12 bodyRun.sl.r_11 bodyRun.sl.r_10 bodyRun.sl.r_7 bodyRun.sl.r_6 bodyRun.sl.v202
      rw [e63, l0, l1, l2, l3, e76, View.readAt_eq_ld, View.readAt_eq_ld, harg4.read_unread, harg5.read_unread, ld_full, ld_full]
      rfl
    isplitl [H6]
    · iexists _; isplitr; swap; · iexact H6
      ipureintro
      rw [View.read_writes_full]
      unfold bodyRun.sl.r_17 bodyRun.sl.r_16 bodyRun.sl.r_15 bodyRun.sl.r_14 bodyRun.sl.r_13 bodyRun.sl.r_12 bodyRun.sl.r_11 bodyRun.sl.r_10 bodyRun.sl.r_7 bodyRun.sl.r_6 bodyRun.sl.v202
      rw [e63, l0, l1, l2, l3, e76]
      rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.Launch.lean ====
module

public import proofs.«01_k».proof.Proof.Gen.KernelIdeal.Skeleton
public import proofs.«01_k».proof.Proof.Gen.KernelIdeal.Frame
public import proofs.«01_k».proof.Proof.BodyRun
public import Idealize.ShloMosaic.Lib.Claim
public import Idealize.ShloMosaic.Lib.WritesUnit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x32768x64 .f32 := win0_0.stage (cfg0.slots t 0)
/-- The memory's staging memref is a whole buffer. -/
abbrev hs0_0 (t : Fin cfg0.N) : (ms0_0 t).IsWhole := hstage0_0 ((cfg0.slots t 0).cast nbuf0_0)
/-- The staging memref of the keys at point `t`. -/
abbrev ms0_1 (t : Fin cfg0.N) : Memref sig .tc .vmem S1x8x64 .f32 := win0_1.stage (cfg0.slots t 1)
/-- The keys' staging memref is a whole buffer. -/
abbrev hs0_1 (t : Fin cfg0.N) : (ms0_1 t).IsWhole := hstage0_1 ((cfg0.slots t 1).cast nbuf0_1)
/-- The staging memref of the scales at point `t`. -/
abbrev ms0_2 (t : Fin cfg0.N) : Memref sig .tc .vmem S1x1x8 .f32 := win0_2.stage (cfg0.slots t 2)
/-- The scales' staging memref is a whole buffer. -/
abbrev hs0_2 (t : Fin cfg0.N) : (ms0_2 t).IsWhole := hstage0_2 ((cfg0.slots t 2).cast nbuf0_2)
/-- The staging memref of the merging weights at point `t`. -/
abbrev ms0_3 (t : Fin cfg0.N) : Memref sig .tc .vmem S8x64x64 .f32 := win0_3.stage (cfg0.slots t 3)
/-- The merging weights' staging memref is a whole buffer. -/
abbrev hs0_3 (t : Fin cfg0.N) : (ms0_3 t).IsWhole := hstage0_3 ((cfg0.slots t 3).cast nbuf0_3)
/-- The staging memref of the bias at point `t`. -/
abbrev ms0_4 (t : Fin cfg0.N) : Memref sig .tc .vmem S1x64 .f32 := win0_4.stage (cfg0.slots t 4)
/-- The bias's staging memref is a whole buffer. -/
abbrev hs0_4 (t : Fin cfg0.N) : (ms0_4 t).IsWhole := hstage0_4 ((cfg0.slots t 4).cast nbuf0_4)
/-- The staging memref of the merged readout at point `t`. -/
abbrev ms0_5 (t : Fin cfg0.N) : Memref sig .tc .vmem S1x1x64 .f32 := win0_5.stage (cfg0.slots t 5)
/-- The merged readout's staging memref is a whole buffer. -/
abbrev hs0_5 (t : Fin cfg0.N) : (ms0_5 t).IsWhole := hstage0_5 ((cfg0.slots t 5).cast nbuf0_5)
/-- The staging memref of the weights at point `t`. -/
abbrev ms0_6 (t : Fin cfg0.N) : Memref sig .tc .vmem S1x8x256x128 .f32 := win0_6.stage (cfg0.slots t 6)
/-- The weights' staging memref is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S8x32x256 .f32 := Memref.whole cc0_scratch0
/-- The scratch buffer of the candidates. -/
abbrev scM0_1 : Memref sig .tc .vmem S8x32x128 .f32 := Memref.whole cc0_scratch1
/-- The scratch buffer of the squared lengths of the memory rows. -/
abbrev scM0_2 : Memref sig .tc .vmem S256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The pipeline's proof data -/

/-- The proof data of the one pipeline on core `c`: the arrays as the region finds them (`V`); after the body at
    point `t` each input's buffer at its block and the outputs at `out5` / `out6` of the input blocks; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves the block of the keys as it found it. -/
theorem after0_1 (c : Dev nD) (t : Fin cfg0.N) : (dats m 0 c).after 1 t = iblk m c 1 t := by dsimp only [dats]
/-- The body leaves the block of the scales as it found it. -/
theorem after0_2 (c : Dev nD) (t : Fin cfg0.N) : (dats m 0 c).after 2 t = iblk m c 2 t := by dsimp only [dats]
/-- The body leaves the block of the merging weights as it found it. -/
theorem after0_3 (c : Dev nD) (t : Fin cfg0.N) : (dats m 0 c).after 3 t = iblk m c 3 t := by dsimp only [dats]
/-- The body leaves the block of the bias as it found it. -/
theorem after0_4 (c : Dev nD) (t : Fin cfg0.N) : (dats m 0 c).after 4 t = iblk m c 4 t := by dsimp only [dats]
/-- The body leaves `out5` of the input blocks in the merged readout. -/
theorem after0_5 (c : Dev nD) (t : Fin cfg0.N) : (dats m 0 c).after 5 t = out5 (iblk m c 0 t) (iblk m c 1 t) (iblk m c 2 t) (iblk m c 3 t) (iblk m c 4 t) := by dsimp only [dats]
/-- The body leaves `out6` of the input blocks in the weights. -/
theorem after0_6 (c : Dev nD) (t : Fin cfg0.N) : (dats m 0 c).after 6 t = out6 (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds the block of the keys in its staging buffer. -/
theorem before0_1 (c : Dev nD) (t : Fin cfg0.N) (d) : (dats m 0 c).before 1 t d = iblk m c 1 t :=
  before0_1_of m (dats m 0 c) (A_eq m c 1) (after0_1 m c) t d
/-- The body finds the block of the scales in its staging buffer. -/
theorem before0_2 (c : Dev nD) (t : Fin cfg0.N) (d) : (dats m 0 c).before 2 t d = iblk m c 2 t :=
  before0_2_of m (dats m 0 c) (A_eq m c 2) (after0_2 m c) t d
/-- The body finds the block of the merging weights in its staging buffer. -/
theorem before0_3 (c : Dev nD) (t : Fin cfg0.N) (d) : (dats m 0 c).before 3 t d = iblk m c 3 t :=
  before0_3_of m (dats m 0 c) (A_eq m c 3) (after0_3 m c) t d
/-- The body finds the block of the bias in its staging buffer. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- THE LAUNCH: from any memory with zero counters, every weakly fair execution of @main terminates with every array of
    the pipeline as the proof data states, every other buffer as the host lines leave it, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Frames.lean ====
module

public import proofs.«01_k».proof.Defs
public import proofs.«01_k».proof.Proof.Plain.Launch
public import proofs.«01_k».proof.Proof.Gen.ReferenceIdeal.Run
public import proofs.«01_k».proof.Proof.Launch
public import Idealize.ShloMosaic.Lib.Quiescent

@[expose] public section

noncomputable section

/-! The claims that say a program runs and leaves its arguments alone, and the one about the named constant. -/

namespace Cert.Claims

open Idealize.ShloMosaic Idealize.SL.Sem

/-- The side conditions of the precondition's program. -/
theorem preFacts : Cert.Pre_beta_finite.Facts where
  bcast_S_S32x8 := by decide
  reducesTo_S32x8_S_d0_1 := by decide
  h_S_ := by decide

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_beta_finite.Facts := preFacts

/-- The kernel runs, keeps its arguments and ends with every counter at zero. -/
theorem frame_p : Cert.quiescent_Kernel := fun m ρ _ => Cert.Kernel.Hand.frame m ρ

/-- So does the kernel over the extended reals, with the mask constant named. -/
theorem frame_pi : Cert.quiescent_KernelIdeal := fun m ρ _ => Cert.KernelIdeal.Hand.frame m ρ

/-- The same under the precondition. -/
theorem frame_pi_pre : Cert.quiescent_KernelIdeal_pre_beta_finite := fun m ρ _ => Cert.KernelIdeal.Hand.frame m ρ

/-- The reference runs, keeps its arguments and has no counters. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same under the precondition. -/
theorem frame_ri_pre : Cert.quiescent_ReferenceIdeal_pre_beta_finite := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The named constant's value is minus infinity. -/
theorem preserves : Cert.preserves_Kernel_KernelIdeal :=
  IdealRules.named_const.statement Cert.KernelIdeal.κ "neg" .f32 0xFF61B1E6#32 ⊥ rfl

end Cert.Claims

end
-- ==== Proof.Consts.lean ====
module

public import Idealize.ShloMosaic.Lib.Pointwise
public import Mathlib.Data.EReal.Operations
public import Mathlib.Data.Fintype.BigOperators
public import Mathlib.Algebra.BigOperators.Ring.Finset

@[expose] public section

noncomputable section

/-! The constants the programs print, as extended reals, and small facts about maxima, comparisons and counts. -/

namespace Cert.Math

open Idealize.ShloMosaic

/-- The pattern the maxima start from is minus infinity. -/
theorem bits_bot : Ideal.ofBits .f32 0xFF800000#32 = ⊥ := by simp [Ideal.ofBits, Ideal.ieee]

/-- The pattern of thirty-two. -/
theorem bits_32 : Ideal.ofBits .f32 0x42000000#32 = ((32 : ℕ) : EReal) := by
  rw [show ((32 : ℕ) : EReal) = ((32 : ℝ) : EReal) by norm_cast]
  simp [Ideal.ofBits, Ideal.ieee, -EReal.coe_mul]; norm_num

/-- The pattern of plus infinity. -/
theorem bits_top : Ideal.ofBits .f32 0x7F800000#32 = ⊤ := by simp [Ideal.ofBits, Ideal.ieee]

/-- The guard against division by zero is a positive real. -/
theorem bits_eps : ∃ e : ℝ, 0 < e ∧ Ideal.ofBits .f32 0x322BCC77#32 = (e : EReal) := by
  refine ⟨_, ?_, by simp [Ideal.ofBits, Ideal.ieee, -EReal.coe_mul]; rfl⟩
  positivity

/-- A comparison's bit, widened and read as a number, is one or zero. -/
theorem bit_num (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℤ) : ℝ) : EReal) = _
  by_cases h : p
  · simp [h]
  · simp [h]

/-- The folded maximum bounds every entry. -/
theorem le_fold_max {X : Type} [Fintype X] (f : X → EReal) (x : X) : f x ≤ Finset.univ.fold max ⊥ f :=
  (Finset.le_fold_max _).mpr (Or.inr ⟨x, Finset.mem_univ _, le_refl _⟩)

/-- And what bounds every entry bounds it. -/
theorem fold_max_le {X : Type} [Fintype X] (f : X → EReal) (c : EReal) (h : ∀ x, f x ≤ c) : Finset.univ.fold max ⊥ f ≤ c :=
  Finset.fold_max_le _ |>.mpr ⟨bot_le, fun x _ => h x⟩

/-- And it is one of the entries, where there are any. -/
theorem fold_max_mem {X : Type} [Fintype X] [Nonempty X] (f : X → EReal) : ∃ x, f x = Finset.univ.fold max ⊥ f := by
  obtain ⟨x, _, hx⟩ := Finset.exists_max_image (Finset.univ : Finset X) f Finset.univ_nonempty
  exact ⟨x, le_antisymm (le_fold_max f x) (fold_max_le f _ fun y => hx y (Finset.mem_univ _))⟩

/-- A maximum of maxima is the maximum over pairs. -/
theorem fold_max_prod {X Y : Type} [Fintype X] [Fintype Y] (f : X → Y → EReal) :
    Finset.univ.fold max ⊥ (fun x => Finset.univ.fold max ⊥ (f x)) = Finset.univ.fold max ⊥ (fun z : X × Y => f z.1 z.2) := by
  refine le_antisymm (fold_max_le _ _ fun x => fold_max_le _ _ fun y => le_fold_max (fun z : X × Y => f z.1 z.2) (x, y))
    (fold_max_le _ _ fun z => (le_fold_max (f z.1) z.2).trans (le_fold_max (fun x => Finset.univ.fold max ⊥ (f x)) z.1))

/-- Ones and zeros add up to a count. -/
theorem sum_ones {X : Type} [Fintype X] (p : X → Prop) [DecidablePred p] :
    (∑ x, if p x then (1 : EReal) else 0) = (((Finset.univ.filter p).card : ℕ) : EReal) := by
  rw [Finset.sum_ite, Finset.sum_const_zero, add_zero, Finset.sum_const, nsmul_one]

/-- A difference of naturals as extended reals. -/
theorem natCast_sub (a b : ℕ) (h : b ≤ a) : ((a - b : ℕ) : EReal) = ((a : ℕ) : EReal) - ((b : ℕ) : EReal) := by
  have h2 : ∀ k : ℕ, ((k : ℕ) : EReal) = ((k : ℝ) : EReal) := fun k => by norm_cast
  rw [h2, h2, h2, ← EReal.coe_sub, Nat.cast_sub h]

/-- Comparing naturals as extended reals after moving one to the other side. -/
theorem natCast_le_sub (a b : ℕ) (hb : b ≤ 32) : ((a : ℕ) : EReal) ≤ ((32 : ℕ) : EReal) - ((b : ℕ) : EReal) ↔ a + b ≤ 32 := by
  have h : ((32 : ℕ) : EReal) - ((b : ℕ) : EReal) = ((32 - b : ℕ) : EReal) := by
    have h1 : ((32 : ℕ) : EReal) = ((32 : ℝ) : EReal) := by norm_cast
    have h2 : ∀ k : ℕ, ((k : ℕ) : EReal) = ((k : ℝ) : EReal) := fun k => by norm_cast
    rw [h1, h2, h2, ← EReal.coe_sub, Nat.cast_sub hb]; norm_num
  rw [h, EReal.natCast_le_iff]
  omega

end Cert.Math

end
-- ==== Proof.Blocks.lean ====
module

public import Mathlib.Data.EReal.Operations
public import Mathlib.Data.Fintype.BigOperators
public import Mathlib.Algebra.BigOperators.Ring.Finset

@[expose] public section

noncomputable section

/-! Choosing blocks by their maxima: the blocks a masking search chooses dominate the others, and then nothing above a
    threshold that few chosen entries exceed lies outside them. -/

namespace Cert.Math

section Search

variable {n : ℕ} (bm : Fin n → EReal) (b : ℕ → Fin n → EReal) (c : ℕ → Fin n)

/-- The carried maxima after `t` trips: masked where a trip before `t` chose, as launched elsewhere. -/
theorem carried_eq (h0 : ∀ j, b 0 j = bm j) (hstep : ∀ t j, b (t + 1) j = if j = c t then ⊥ else b t j) (t : ℕ) (j : Fin n) :
    b t j = if ∃ u < t, c u = j then ⊥ else bm j := by
  induction t with
  | zero => simp [h0]
  | succ t ih =>
    rw [hstep, ih]
    by_cases h : j = c t
    · rw [if_pos h, if_pos ⟨t, Nat.lt_succ_self t, h.symm⟩]
    · rw [if_neg h]
      congr 1
      apply propext
      constructor
      · rintro ⟨u, hu, e⟩; exact ⟨u, by omega, e⟩
      · rintro ⟨u, hu, e⟩
        refine ⟨u, ?_, e⟩
        rcases Nat.lt_succ_iff_lt_or_eq.mp hu with h1 | h1
        · exact h1
        · subst h1; exact absurd e.symm h

/-- A trip before the blocks run out chooses one not chosen before, whose maximum no other block left exceeds. -/
theorem choice_new (h0 : ∀ j, b 0 j = bm j) (hstep : ∀ t j, b (t + 1) j = if j = c t then ⊥ else b t j)
    (hmax : ∀ t j, b t j ≤ b t (c t)) (hreal : ∀ j, ⊥ < bm j) (t : ℕ) (ht : t < n) :
    (∀ u < t, c u ≠ c t) ∧ ∀ j, (∀ u < t, c u ≠ j) → bm j ≤ bm (c t) := by
  have hex : ∃ j, ∀ u < t, c u ≠ j := by
    by_contra hc
    push Not at hc
    have hs : (Finset.univ : Finset (Fin n)) ⊆ (Finset.range t).image c := by
      intro j _
      obtain ⟨u, hu, e⟩ := hc j
      exact Finset.mem_image.mpr ⟨u, Finset.mem_range.mpr hu, e⟩
    have h1 := Finset.card_le_card hs
    have h2 := Finset.card_image_le (s := Finset.range t) (f := c)
    simp only [Finset.card_univ, Fintype.card_fin, Finset.card_range] at h1 h2
    omega
  have hval : ∀ j, (∀ u < t, c u ≠ j) → b t j = bm j := by
    intro j hj
    rw [carried_eq bm b c h0 hstep, if_neg]
    rintro ⟨u, hu, e⟩
    exact hj u hu e
  have hnew : ∀ u < t, c u ≠ c t := by
    intro u hu e
    obtain ⟨j, hj⟩ := hex
    have h1 := hmax t j
    rw [hval j hj, carried_eq bm b c h0 hstep t (c t), if_pos ⟨u, hu, e⟩] at h1
    exact absurd (lt_of_lt_of_le (hreal j) h1) (lt_irrefl _)
  refine ⟨hnew, fun j hj => ?_⟩
  have h1 := hmax t j
  rwa [hval j hj, hval (c t) hnew] at h1

/-- The first `K` choices are distinct. -/
theorem choice_injective (h0 : ∀ j, b 0 j = bm j) (hstep : ∀ t j, b (t + 1) j = if j = c t then ⊥ else b t j)
    (hmax : ∀ t j, b t j ≤ b t (c t)) (hreal : ∀ j, ⊥ < bm j) (K : ℕ) (hK : K ≤ n) :
    Function.Injective (fun t : Fin K => c t.val) := by
  intro t u h
  rcases lt_trichotomy t.val u.val with h1 | h1 | h1
  · exact absurd h ((choice_new bm b c h0 hstep hmax hreal u.val (by omega)).1 t.val h1)
  · exact Fin.ext h1
  · exact absurd h.symm ((choice_new bm b c h0 hstep hmax hreal t.val (by omega)).1 u.val h1)

/-- Every block never chosen has a maximum no greater than each chosen block's. -/
theorem choice_dominates (h0 : ∀ j, b 0 j = bm j) (hstep : ∀ t j, b (t + 1) j = if j = c t then ⊥ else b t j)
    (hmax : ∀ t j, b t j ≤ b t (c t)) (hreal : ∀ j, ⊥ < bm j) (K : ℕ) (hK : K ≤ n) (j : Fin n)
    (hj : ∀ t : Fin K, c t.val ≠ j) (t : Fin K) : bm j ≤ bm (c t.val) :=
  (choice_new bm b c h0 hstep hmax hreal t.val (by omega)).2 j fun u hu => hj ⟨u, by omega⟩

end Search

section Dominate

variable {n m K : ℕ} (s : Fin n → Fin m → EReal) (bm : Fin n → EReal) (c : Fin K → Fin n) (T : EReal)

/-- With dominating chosen blocks, a threshold fewer than `K` chosen entries exceed is exceeded in chosen blocks only. -/
theorem above_in_chosen (hle : ∀ b l, s b l ≤ bm b) (hat : ∀ b, ∃ l, s b l = bm b)
    (hdom : ∀ j, (∀ t, c t ≠ j) → ∀ t, bm j ≤ bm (c t))
    (hgt : (Finset.univ.filter fun x : Fin K × Fin m => T < s (c x.1) x.2).card < K) (b : Fin n) (l : Fin m) (h : T < s b l) :
    ∃ t, c t = b := by
  by_contra hc
  push Not at hc
  choose a ha using hat
  have hinj : Function.Injective (fun t : Fin K => (t, a (c t))) := fun t u e => (Prod.ext_iff.mp e).1
  have h1 : (Finset.univ.image fun t : Fin K => (t, a (c t)))
      ⊆ Finset.univ.filter fun x : Fin K × Fin m => T < s (c x.1) x.2 := by
    intro x hx
    obtain ⟨t, _, rfl⟩ := Finset.mem_image.mp hx
    simp only [Finset.mem_filter, Finset.mem_univ, true_and]
    rw [ha]
    exact lt_of_lt_of_le h ((hle b l).trans (hdom b hc t))
  have h2 := Finset.card_le_card h1
  rw [Finset.card_image_of_injective _ hinj] at h2
  simp only [Finset.card_univ, Fintype.card_fin] at h2
  omega

/-- A chosen entry as an entry of the whole. -/
def pick (hinj : Function.Injective c) : Fin K × Fin m ↪ Fin n × Fin m :=
  ⟨fun x => (c x.1, x.2), fun x y e => Prod.ext (hinj (Prod.ext_iff.mp e).1) (Prod.ext_iff.mp e).2⟩

/-- Then the entries above the threshold are the chosen entries above it. -/
theorem above_eq (hinj : Function.Injective c) (hle : ∀ b l, s b l ≤ bm b) (hat : ∀ b, ∃ l, s b l = bm b)
    (hdom : ∀ j, (∀ t, c t ≠ j) → ∀ t, bm j ≤ bm (c t))
    (hgt : (Finset.univ.filter fun x : Fin K × Fin m => T < s (c x.1) x.2).card < K) :
    (Finset.univ.filter fun y : Fin n × Fin m => T < s y.1 y.2)
      = (Finset.univ.filter fun x : Fin K × Fin m => T < s (c x.1) x.2).map (pick c hinj) := by
  ext ⟨b, l⟩
  simp only [Finset.mem_filter, Finset.mem_univ, true_and, Finset.mem_map, pick, Function.Embedding.coeFn_mk, Prod.exists,
    Prod.mk.injEq]
  constructor
  · intro h
    obtain ⟨t, rfl⟩ := above_in_chosen s bm c T hle hat hdom hgt b l h
    exact ⟨t, l, h, rfl⟩
  · rintro ⟨t, l', h, e⟩
    cases e
    exact h

/-- The entries reaching the threshold are no fewer than the chosen ones that do. -/
theorem reach_le (hinj : Function.Injective c) :
    (Finset.univ.filter fun x : Fin K × Fin m => T ≤ s (c x.1) x.2).card
      ≤ (Finset.univ.filter fun y : Fin n × Fin m => T ≤ s y.1 y.2).card := by
  rw [← Finset.card_map (pick c hinj)]
  refine Finset.card_le_card fun y hy => ?_
  simp only [Finset.mem_map, Finset.mem_filter, Finset.mem_univ, true_and, pick, Function.Embedding.coeFn_mk] at hy ⊢
  obtain ⟨x, hx, rfl⟩ := hy
  exact hx

end Dominate

end Cert.Math

end
-- ==== Proof.Threshold.lean ====
module

public import Mathlib.Data.EReal.Operations
public import Mathlib.Data.Fintype.BigOperators
public import Mathlib.Algebra.BigOperators.Ring.Finset

@[expose] public section

noncomputable section

/-! The threshold loop: take the maximum of what is left, count the entries that reach it, mask them, until enough are
    counted. -/

namespace Cert.Math

variable {X : Type} [Fintype X] [DecidableEq X]

/-- Where the loop stands: either enough entries are counted and the threshold separates, or the counted entries are an
    upper set, fewer than `K`, at least one a trip, and masked. -/
def Separates (K : ℕ) (cand : X → EReal) (T : EReal) : Prop :=
  (Finset.univ.filter fun x => T < cand x).card < K ∧ K ≤ (Finset.univ.filter fun x => T ≤ cand x).card

/-- AT EXIT THE THRESHOLD SEPARATES: after `K` trips fewer than `K` entries exceed it and at least `K` reach it. -/
theorem loop_separates (K : ℕ) (cand : X → EReal) (hreal : ∀ x, ⊥ < cand x) (hK : K ≤ Fintype.card X) (hpos : 0 < K)
    (s : ℕ → X → EReal) (thr : ℕ → EReal) (found : ℕ → EReal) (M : ℕ → EReal)
    (hM : ∀ t, (∀ x, s t x ≤ M t) ∧ ∃ x, s t x = M t)
    (hthr : ∀ t, thr (t + 1) = if found t < ((K : ℕ) : EReal) then M t else thr t)
    (hfound : ∀ t, found (t + 1) = found t + (((Finset.univ.filter fun x => M t ≤ s t x).card : ℕ) : EReal))
    (hs : ∀ t x, s (t + 1) x = if M t ≤ s t x then ⊥ else s t x)
    (hs0 : ∀ x, s 0 x = cand x) (hf0 : found 0 = 0) : Separates K cand (thr K) := by
  have inv : ∀ t, ∃ N : ℕ, found t = ((N : ℕ) : EReal) ∧ ((K ≤ N ∧ Separates K cand (thr t))
      ∨ (N < K ∧ t ≤ N ∧ ∃ U : Finset X, U.card = N ∧ (∀ x, s t x = if x ∈ U then ⊥ else cand x)
          ∧ ∀ u ∈ U, ∀ v ∉ U, cand v < cand u)) := by
    intro t
    induction t with
    | zero => exact ⟨0, by rw [hf0, Nat.cast_zero], Or.inr ⟨hpos, le_refl _, ∅, rfl, by simp [hs0], by simp⟩⟩
    | succ t ih =>
      obtain ⟨N, hN, h⟩ := ih
      refine ⟨N + (Finset.univ.filter fun x => M t ≤ s t x).card, ?_, ?_⟩
      · rw [hfound, hN, Nat.cast_add]
      rcases h with ⟨hKN, hsep⟩ | ⟨hNK, htN, U, hU, hsU, hup⟩
      · left
        refine ⟨by omega, ?_⟩
        rw [hthr, hN, if_neg (by rw [EReal.natCast_lt_iff]; omega)]
        exact hsep
      · obtain ⟨hle, x0, hx0⟩ := hM t
        have hMpos : ⊥ < M t := by
          obtain ⟨v, hv⟩ : ∃ v, v ∉ U := by
            by_contra hc
            push Not at hc
            have : U = Finset.univ := Finset.eq_univ_of_forall hc
            rw [this, Finset.card_univ] at hU
            omega
          have := hle v
          rw [hsU, if_neg hv] at this
          exact lt_of_lt_of_le (hreal v) this
        have hout : ∀ x, M t ≤ s t x ↔ x ∉ U ∧ cand x = M t := by
          intro x
          constructor
          · intro h
            have hx : x ∉ U := by
              intro hx
              rw [hsU, if_pos hx] at h
              exact absurd (lt_of_lt_of_le hMpos h) (lt_irrefl _)
            refine ⟨hx, ?_⟩
            have h2 := hle x
            rw [hsU, if_neg hx] at h h2
            exact le_antisymm h2 h
          · rintro ⟨hx, h⟩
            rw [hsU, if_neg hx, h]
        have hMle : ∀ v ∉ U, cand v ≤ M t := by
          intro v hv
          have := hle v
          rwa [hsU, if_neg hv] at this
        have hx0U : x0 ∉ U ∧ cand x0 = M t := (hout x0).mp hx0.ge
        have hgt : (Finset.univ.filter fun x => M t < cand x) = U := by
          ext x
          simp only [Finset.mem_filter, Finset.mem_univ, true_and]
          constructor
          · intro h
            by_contra hx
            exact absurd (hMle x hx) (not_le.mpr h)
          · intro hx
            rw [← hx0U.2]
            exact hup x hx x0 hx0U.1
        have hdisj : Disjoint U (Finset.univ.filter fun x => M t ≤ s t x) := by
          rw [Finset.disjoint_left]
          intro x hx hx2
          simp only [Finset.mem_filter, Finset.mem_univ, true_and] at hx2
          exact ((hout x).mp hx2).1 hx
        have hge : (Finset.univ.filter fun x => M t ≤ cand x) = U ∪ (Finset.univ.filter fun x => M t ≤ s t x) := by
          ext x
          simp only [Finset.mem_filter, Finset.mem_univ, true_and, Finset.mem_union, hout]
          constructor
          · intro h
            by_cases hx : x ∈ U
            · exact Or.inl hx
            · exact Or.inr ⟨hx, le_antisymm (hMle x hx) h⟩
          · rintro (hx | ⟨hx, h⟩)
            · have : x ∈ (Finset.univ.filter fun x => M t < cand x) := by rw [hgt]; exact hx
              simp only [Finset.mem_filter, Finset.mem_univ, true_and] at this
              exact this.le
            · exact h.ge
        have hcard : (U ∪ (Finset.univ.filter fun x => M t ≤ s t x)).card = N + (Finset.univ.filter fun x => M t ≤ s t x).card := by
          rw [Finset.card_union_of_disjoint hdisj, hU]
        have hne : 0 < (Finset.univ.filter fun x => M t ≤ s t x).card :=
          Finset.card_pos.mpr ⟨x0, by simp only [Finset.mem_filter, Finset.mem_univ, true_and]; exact hx0.ge⟩
        have hT : thr (t + 1) = M t := by rw [hthr, hN, if_pos (by rw [EReal.natCast_lt_iff]; exact hNK)]
        by_cases hbig : K ≤ N + (Finset.univ.filter fun x => M t ≤ s t x).card
        · left
          refine ⟨hbig, ?_⟩
          rw [hT]
          refine ⟨?_, ?_⟩
          · rw [hgt, hU]; exact hNK
          · rw [hge, hcard]; exact hbig
        · right
          refine ⟨by omega, by omega, _, hcard, ?_, ?_⟩
          · intro x
            rw [hs]
            by_cases hx : M t ≤ s t x
            · rw [if_pos hx, if_pos (Finset.mem_union_right _ (by simpa using hx))]
            · rw [if_neg hx, hsU]
              congr 1
              simp only [Finset.mem_union, Finset.mem_filter, Finset.mem_univ, true_and, eq_iff_iff]
              tauto
          · intro u hu v hv
            have hv1 : v ∉ U := fun h => hv (Finset.mem_union_left _ h)
            have hv2 : ¬ M t ≤ s t v := fun h => hv (Finset.mem_union_right _ (by simpa using h))
            rcases Finset.mem_union.mp hu with h | h
            · exact hup u h v hv1
            · simp only [Finset.mem_filter, Finset.mem_univ, true_and] at h
              rw [((hout u).mp h).2]
              refine lt_of_le_of_ne (hMle v hv1) fun e => hv2 ((hout v).mpr ⟨hv1, e⟩)
  obtain ⟨N, _, h⟩ := inv K
  rcases h with ⟨_, h⟩ | ⟨h1, h2, _⟩
  · exact h
  · omega

end Cert.Math

end
-- ==== Proof.Search.lean ====
module

public import proofs.«01_k».proof.Proof.Gen.KernelIdeal.Skeleton
public import proofs.«01_k».proof.Proof.Stages
public import proofs.«01_k».proof.Proof.Consts
public import proofs.«01_k».proof.Proof.Blocks
public import proofs.«01_k».proof.Proof.Threshold
public import Idealize.ShloMosaic.Lib.WordCmp
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What the search over blocks and the threshold loop do to one head, over the extended reals. -/

open Cert.Math

/-- The least of 32-bit words, folded from the largest: one of them or the start, and no greater than any. -/
theorem fold_minsi {X : Type} (S : Finset X) (f : X → BitVec 32) :
    (S.fold IntOp.minsi 2147483647#32 f = 2147483647#32 ∨ ∃ x ∈ S, S.fold IntOp.minsi 2147483647#32 f = f x)
    ∧ ∀ x ∈ S, (S.fold IntOp.minsi 2147483647#32 f).toInt ≤ (f x).toInt := by
  classical
  have hmin : ∀ a b : BitVec 32, (IntOp.minsi a b = a ∨ IntOp.minsi a b = b)
      ∧ (IntOp.minsi a b).toInt ≤ a.toInt ∧ (IntOp.minsi a b).toInt ≤ b.toInt := by
    intro a b
    unfold IntOp.minsi
    rw [BitVec.slt_eq_decide]
    by_cases hab : a.toInt < b.toInt
    · simp [hab]; omega
    · simp [hab]; omega
  induction S using Finset.induction_on with
  | empty => simp
  | insert a S ha ih =>
    rw [Finset.fold_insert ha]
    obtain ⟨h1, h2, h3⟩ := hmin (f a) (S.fold IntOp.minsi 2147483647#32 f)
    refine ⟨?_, ?_⟩
    · rcases h1 with h1 | h1
      · exact Or.inr ⟨a, Finset.mem_insert_self _ _, h1⟩
      · rw [h1]
        rcases ih.1 with h | ⟨x, hx, h⟩
        · exact Or.inl h
        · exact Or.inr ⟨x, Finset.mem_insert_of_mem hx, h⟩
    · intro x hx
      rcases Finset.mem_insert.mp hx with rfl | hx
      · exact h2
      · exact h3.trans (ih.2 x hx)

/-- A block's number as a word is itself. -/
theorem toInt_block (x : Fin 256) : (BitVec.ofNat 32 x.val).toInt = x.val := by
  have := x.isLt
  rw [BitVec.toInt_eq_toNat_of_lt, BitVec.toNat_ofNat, Nat.mod_eq_of_lt (by omega)]
  rw [BitVec.toNat_ofNat, Nat.mod_eq_of_lt (by omega)]
  omega

/-- Comparing two blocks' numbers as words compares the blocks. -/
theorem same_block (j c : Fin 256) :
    IntOp.cmpi .eq (BitVec.ofNat 32 j.val) (BitVec.ofNat 32 c.val) = BitVec.ofBool (decide (j = c)) := by
  have h1 := j.isLt
  have h2 := c.isLt
  rw [WordCmp.cmpi_eq_ofNat (by omega) (by omega)]
  exact congrArg BitVec.ofBool (decide_eq_decide.mpr Fin.ext_iff.symm)

/-- The folded least block number is that of a block with the greatest value. -/
theorem least_block (g : Fin 256 → EReal) (M : EReal) (hM : ∃ x, M ≤ g x) :
    ∃ c : Fin 256, (Finset.univ.fold IntOp.minsi 2147483647#32 fun x : Fin 256 => if M ≤ g x then BitVec.ofNat 32 x.val else 256#32)
      = BitVec.ofNat 32 c.val ∧ M ≤ g c := by
  obtain ⟨x1, hx1⟩ := hM
  obtain ⟨hor, hle⟩ := fold_minsi (Finset.univ : Finset (Fin 256)) (fun x => if M ≤ g x then BitVec.ofNat 32 x.val else 256#32)
  have hx1le := hle x1 (Finset.mem_univ _)
  rw [if_pos hx1, toInt_block] at hx1le
  have hx1lt := x1.isLt
  have e1 : (2147483647#32 : BitVec 32).toInt = 2147483647 := by decide
  have e2 : (256#32 : BitVec 32).toInt = 256 := by decide
  rcases hor with h0 | ⟨c, _, hc⟩
  · rw [h0, e1] at hx1le
    omega
  · by_cases hMc : M ≤ g c
    · exact ⟨c, by rw [hc, if_pos hMc], hMc⟩
    · rw [hc, if_neg hMc, e2] at hx1le
      omega

/-- A trip marks exactly one block of a head, and one whose carried maximum is the greatest. -/
theorem pay18_choice (a : FVec Ideal S8x256 .f32) (h : Fin 8) :
    ∃ c : Fin 256, (∀ j : Fin 256, k0_pay18 a (ix2 h j) = if j = c then (1 : EReal) else 0)
      ∧ ∀ j : Fin 256, a (ix2 h j) ≤ a (ix2 h c) := by
  obtain ⟨x1, hx1⟩ := fold_max_mem (fun x : Fin 256 => a (ix2 h x))
  obtain ⟨c, hc, hMc⟩ := least_block (fun x : Fin 256 => a (ix2 h x)) _ ⟨x1, hx1.ge⟩
  refine ⟨c, fun j => ?_, fun j => (le_fold_max (fun x : Fin 256 => a (ix2 h x)) j).trans hMc⟩
  pointwise [k0_pay18]
  rw [bits_bot, hc]
  rw [same_block, bit_num]

/-- The block trip `t` chooses for head `h`. -/
def choice (init : FVec Ideal S8x256 .f32) (h : Fin 8) (t : ℕ) : Fin 256 := (pay18_choice (carried init t) h).choose

/-- The one-hot row that trip `t` stores has its one at the chosen block and zeros elsewhere. -/
theorem choice_spec (init : FVec Ideal S8x256 .f32) (h : Fin 8) (t : ℕ) (j : Fin 256) :
    k0_pay18 (carried init t) (ix2 h j) = if j = choice init h t then (1 : EReal) else 0 :=
  (pay18_choice (carried init t) h).choose_spec.1 j

/-- The block that trip `t` chooses has the greatest carried maximum. -/
theorem choice_max (init : FVec Ideal S8x256 .f32) (h : Fin 8) (t : ℕ) (j : Fin 256) :
    carried init t (ix2 h j) ≤ carried init t (ix2 h (choice init h t)) :=
  (pay18_choice (carried init t) h).choose_spec.2 j

/-- A trip masks the block it chose and carries the rest. -/
theorem carried_step (init : FVec Ideal S8x256 .f32) (h : Fin 8) (t : ℕ) (j : Fin 256) :
    carried init (t + 1) (ix2 h j) = if j = choice init h t then ⊥ else carried init t (ix2 h j) := by
  show k0_pay20 (carried init t) (ix2 h j) = _
  pointwise [k0_pay20]
  rw [choice_spec]
  by_cases hj : j = choice init h t
  · rw [if_pos hj, if_pos hj, if_pos zero_lt_one]; rfl
  · rw [if_neg hj, if_neg hj, if_neg (lt_irrefl _)]

/-- A candidate row is the row of the block chosen. -/
theorem cand_at (sim : FVec Ideal S8x256x128 .f32) (init : FVec Ideal S8x256 .f32) (h : Fin 8) (t : Fin 32) (l : Fin 128) :
    candArr sim (chosen init) (ix3 h t l) = sim (ix3 h (choice init h t.val) l) := by
  have hrow : ∀ x : Fin 256, headRows (chosen init) h (ix3 (0 : Fin 1) t x) = if x = choice init h t.val then (1 : EReal) else 0 := by
    intro x
    rw [← choice_spec]
    show k0_pay19 (carried init t.val) (ix3 h (0 : Fin 1) x) = _
    pointwise [k0_pay19]
  have hsum : ∑ x : Fin 256, headRows (chosen init) h (ix3 (0 : Fin 1) t x) * sim (ix3 h x l) = sim (ix3 h (choice init h t.val) l) := by
    rw [Finset.sum_eq_single (choice init h t.val)]
    · rw [hrow, if_pos rfl, one_mul]
    · intro b _ hb
      rw [hrow, if_neg hb, zero_mul]
    · intro hc; exact absurd (Finset.mem_univ _) hc
  rw [← hsum]
  show headCand sim h (headRows (chosen init) h) (ix3 (0 : Fin 1) t l) = _
  fin_cases h
  · show k0_pay21 sim _ _ = _
    pointwise [k0_pay21]
  · show k0_pay22 sim _ _ = _
    pointwise [k0_pay22]
  · show k0_pay23 sim _ _ = _
    pointwise [k0_pay23]
  · show k0_pay25 (k0_pay24 sim _) _ = _
    pointwise [k0_pay25, k0_pay24]
  · show k0_pay26 sim _ _ = _
    pointwise [k0_pay26]
  · show k0_pay27 sim _ _ = _
    pointwise [k0_pay27]
  · show k0_pay28 sim _ _ = _
    pointwise [k0_pay28]
  · show k0_pay30 (k0_pay29 sim _) _ = _
    pointwise [k0_pay30, k0_pay29]

end Cert.KernelIdeal.Hand

end
-- ==== Proof.LoopValue.lean ====
module

public import proofs.«01_k».proof.Proof.Gen.KernelIdeal.Skeleton
public import proofs.«01_k».proof.Proof.Search
public import proofs.«01_k».proof.Proof.Consts
public import proofs.«01_k».proof.Proof.Blocks
public import proofs.«01_k».proof.Proof.Threshold
public import Idealize.ShloMosaic.Lib.WordCmp
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The threshold loop, head by head: what it carries and the threshold it leaves. -/

open Cert.Math

/-- One trip of the threshold loop. -/
def thrStep (a : Vec Ideal S8x32x128 .f32 × FVec Ideal S8x1x1 .f32 × FVec Ideal S8x1x1 .f32) :
    Vec Ideal S8x32x128 .f32 × FVec Ideal S8x1x1 .f32 × FVec Ideal S8x1x1 .f32 :=
  (k0_pay37 a.1, k0_pay35 a.1 a.2.1 a.2.2, k0_pay36 a.1 a.2.2)

/-- The loop is thirty-two of them. -/
theorem thrLoop_eq (cand : Vec Ideal S8x32x128 .f32) (rm : FVec Ideal S8x1 .f32) :
    thrLoop cand rm = thrStep^[32] (cand, k0_pay31 rm, k0_pay32) := by
  unfold thrLoop
  rw [Scf.fold_eq]
  refine (List.foldl_const (f := thrStep) _ _).trans ?_
  rw [List.length_finRange]
  rfl

/-- The greatest entry left for a head. -/
def left (a : Vec Ideal S8x32x128 .f32) (h : Fin 8) : EReal :=
  Finset.univ.fold max ⊥ (fun x : Fin 32 × Fin 128 => (a (ix3 h x.1 x.2) : EReal))

/-- The maximum a trip takes is the greatest entry left. -/
theorem pay33_at (a : Vec Ideal S8x32x128 .f32) (h : Fin 8) : k0_pay33 a (ix3 h 0 0) = left a h := by
  unfold left
  rw [← fold_max_prod (fun x y => (a (ix3 h x y) : EReal))]
  pointwise [k0_pay33]
  rw [bits_bot]

/-- A trip masks the entries that reach it. -/
theorem pay37_at (a : Vec Ideal S8x32x128 .f32) (h : Fin 8) (t : Fin 32) (l : Fin 128) :
    k0_pay37 a (ix3 h t l) = if left a h ≤ a (ix3 h t l) then (⊥ : EReal) else a (ix3 h t l) := by
  rw [← pay33_at]
  pointwise [k0_pay37, k0_pay34]
  rfl

/-- A trip moves the threshold to it while too few are counted. -/
theorem pay35_at (a : Vec Ideal S8x32x128 .f32) (thr found : FVec Ideal S8x1x1 .f32) (h : Fin 8) :
    k0_pay35 a thr found (ix3 h 0 0) = if found (ix3 h 0 0) < ((32 : ℕ) : EReal) then left a h else thr (ix3 h 0 0) := by
  rw [← pay33_at, ← bits_32]
  pointwise [k0_pay35]

/-- A trip adds the number of entries that reach it. -/
theorem pay36_at (a : Vec Ideal S8x32x128 .f32) (found : FVec Ideal S8x1x1 .f32) (h : Fin 8) :
    k0_pay36 a found (ix3 h 0 0) = found (ix3 h 0 0)
      + (((Finset.univ.filter fun x : Fin 32 × Fin 128 => left a h ≤ a (ix3 h x.1 x.2)).card : ℕ) : EReal) := by
  rw [← sum_ones, Fintype.sum_prod_type, ← pay33_at]
  pointwise [k0_pay36, k0_pay34]
  simp only [bit_num]

/-- THE THRESHOLD a head ends with separates its candidates: fewer than thirty-two exceed it, at least that many reach it. -/
theorem thr_separates (cand : Vec Ideal S8x32x128 .f32) (rm : FVec Ideal S8x1 .f32) (h : Fin 8)
    (hreal : ∀ t l, (⊥ : EReal) < cand (ix3 h t l)) :
    Separates 32 (fun x : Fin 32 × Fin 128 => (cand (ix3 h x.1 x.2) : EReal)) ((thrLoop cand rm).2.1 (ix3 h 0 0)) := by
  rw [thrLoop_eq]
  have hsucc : ∀ t, thrStep^[t + 1] (cand, k0_pay31 rm, k0_pay32) = thrStep (thrStep^[t] (cand, k0_pay31 rm, k0_pay32)) :=
    fun t => Function.iterate_succ_apply' _ _ _
  refine loop_separates (X := Fin 32 × Fin 128) 32 _ (fun x => hreal x.1 x.2) (by simp) (by decide)
    (fun t x => ((thrStep^[t] (cand, k0_pay31 rm, k0_pay32)).1 (ix3 h x.1 x.2) : EReal))
    (fun t => ((thrStep^[t] (cand, k0_pay31 rm, k0_pay32)).2.1 (ix3 h 0 0) : EReal))
    (fun t => ((thrStep^[t] (cand, k0_pay31 rm, k0_pay32)).2.2 (ix3 h 0 0) : EReal))
    (fun t => left (thrStep^[t] (cand, k0_pay31 rm, k0_pay32)).1 h) ?_ ?_ ?_ ?_ ?_ ?_
  · intro t
    exact ⟨fun x => le_fold_max (fun x : Fin 32 × Fin 128 => ((thrStep^[t] (cand, k0_pay31 rm, k0_pay32)).1 (ix3 h x.1 x.2) : EReal)) x,
      fold_max_mem _⟩
  · intro t
    simp only [hsucc]
    exact pay35_at _ _ _ _
  · intro t
    simp only [hsucc]
    exact pay36_at _ _ _
  · intro t x
    simp only [hsucc]
    exact pay37_at _ _ _ _
  · intro x; rfl
  · show k0_pay32 (F := Ideal) (ix3 h 0 0) = 0
    pointwise [k0_pay32]

end Cert.KernelIdeal.Hand

end
-- ==== Proof.Rank.lean ====
module

public import Idealize.ShloMosaic.Lib.SortFacts
public import Mathlib.Data.EReal.Operations
public import Mathlib.Data.Fintype.BigOperators
public import Mathlib.Algebra.BigOperators.Ring.Finset
public import Mathlib.Order.Fin.Basic

@[expose] public section

noncomputable section

/-! Places in a row's descending order, ties by position: how many entries come first, which entries a threshold
    selects, and what the stable sort puts where. -/

namespace Cert.Math

open Idealize.ShloMosaic

section Rank

variable {n : ℕ} {α : Type} [LinearOrder α]

/-- The place of entry `i` in the descending order of `s`, ties by position: how many entries come before it. -/
def rank (s : Fin n → α) (i : Fin n) : ℕ :=
  (Finset.univ.filter fun j => s i < s j ∨ (s j = s i ∧ j < i)).card

/-- An entry that comes before another has the lower place. -/
theorem rank_lt_rank (s : Fin n → α) {i j : Fin n} (h : s j < s i ∨ (s i = s j ∧ i < j)) : rank s i < rank s j := by
  unfold rank
  apply Finset.card_lt_card
  rw [Finset.ssubset_iff_of_subset]
  · refine ⟨i, ?_, ?_⟩
    · simpa using h
    · simp
  · intro k hk
    simp only [Finset.mem_filter, Finset.mem_univ, true_and] at hk ⊢
    rcases h with h | ⟨h, hij⟩ <;> rcases hk with hk | ⟨hk, hki⟩
    · exact Or.inl (h.trans hk)
    · exact Or.inl (hk ▸ h)
    · exact Or.inl (h ▸ hk)
    · exact Or.inr ⟨hk.trans h, hki.trans hij⟩

/-- Of two entries the one with the lower place is the one that comes before. -/
theorem rank_lt_rank_iff (s : Fin n → α) {i j : Fin n} : rank s i < rank s j ↔ (s j < s i ∨ (s i = s j ∧ i < j)) := by
  refine ⟨fun h => ?_, rank_lt_rank s⟩
  by_contra hc
  rw [not_or, not_lt, not_and, not_lt] at hc
  rcases hc.1.lt_or_eq with hlt | heq
  · exact absurd (rank_lt_rank s (Or.inl hlt)) (by omega)
  · rcases (hc.2 heq).lt_or_eq with hji | hji
    · exact absurd (rank_lt_rank s (Or.inr ⟨heq.symm, hji⟩)) (by omega)
    · subst hji; omega

/-- No two entries have the same place. -/
theorem rank_injective (s : Fin n → α) : Function.Injective (rank s) := by
  intro i j h
  rcases lt_trichotomy (s i) (s j) with hs | hs | hs
  · exact absurd (rank_lt_rank s (Or.inl hs)) (by omega)
  · rcases lt_trichotomy i j with hij | hij | hij
    · exact absurd (rank_lt_rank s (Or.inr ⟨hs, hij⟩)) (by omega)
    · exact hij
    · exact absurd (rank_lt_rank s (Or.inr ⟨hs.symm, hij⟩)) (by omega)
  · exact absurd (rank_lt_rank s (Or.inl hs)) (by omega)

/-- Every place is below the number of entries. -/
theorem rank_lt (s : Fin n → α) (i : Fin n) : rank s i < n := by
  have h : rank s i < (Finset.univ : Finset (Fin n)).card := by
    apply Finset.card_lt_card
    rw [Finset.ssubset_iff_of_subset (Finset.subset_univ _)]
    exact ⟨i, Finset.mem_univ _, by simp⟩
  simpa using h

/-- Exactly `k` entries have a place below `k`. -/
theorem card_rank_lt (s : Fin n → α) {k : ℕ} (hk : k ≤ n) : (Finset.univ.filter fun i => rank s i < k).card = k := by
  have hbij : Function.Bijective (fun i : Fin n => (⟨rank s i, rank_lt s i⟩ : Fin n)) :=
    Finite.injective_iff_bijective.mp fun i j h => rank_injective s (Fin.mk.inj h)
  have h1 : (Finset.univ.filter fun i => rank s i < k).card = (Finset.univ.filter fun j : Fin n => j.val < k).card := by
    refine Finset.card_bij (fun i _ => ⟨rank s i, rank_lt s i⟩) ?_ ?_ ?_
    · intro i hi; simpa using hi
    · intro i _ j _ h; exact hbij.1 h
    · intro j hj
      obtain ⟨i, hi⟩ := hbij.2 j
      refine ⟨i, ?_, hi⟩
      simp only [Finset.mem_filter, Finset.mem_univ, true_and] at hj ⊢
      have := congrArg Fin.val hi
      simp only at this
      omega
  rw [h1, Fin.card_filter_val_lt]
  omega

/-- WHICH ENTRIES COME FIRST: with a threshold `T` that fewer than `k` entries exceed and at least `k` reach, the first `k` are
    those above `T` together with the earliest of those at `T`, as many as are still wanted. -/
theorem rank_lt_iff (s : Fin n → α) (T : α) (k : ℕ) (hgt : (Finset.univ.filter fun j => T < s j).card < k)
    (hge : k ≤ (Finset.univ.filter fun j => T ≤ s j).card) (i : Fin n) :
    rank s i < k ↔ T < s i ∨ (s i = T ∧ (Finset.univ.filter fun j => j ≤ i ∧ s j = T).card
      + (Finset.univ.filter fun j => T < s j).card ≤ k) := by
  rcases lt_trichotomy T (s i) with h | h | h
  · refine ⟨fun _ => Or.inl h, fun _ => lt_of_le_of_lt ?_ hgt⟩
    unfold rank
    refine Finset.card_le_card fun j hj => ?_
    simp only [Finset.mem_filter, Finset.mem_univ, true_and] at hj ⊢
    rcases hj with hj | ⟨hj, _⟩
    · exact h.trans hj
    · rw [hj]; exact h
  · have e1 : rank s i = (Finset.univ.filter fun j => T < s j).card + (Finset.univ.filter fun j => j < i ∧ s j = T).card := by
      unfold rank
      rw [← Finset.card_union_of_disjoint]
      · congr 1
        ext j
        simp only [Finset.mem_filter, Finset.mem_univ, true_and, Finset.mem_union]
        rw [← h]
        tauto
      · rw [Finset.disjoint_filter]
        rintro j _ h1 ⟨_, h2⟩
        rw [h2] at h1; exact lt_irrefl _ h1
    have e2 : (Finset.univ.filter fun j => j ≤ i ∧ s j = T) = insert i (Finset.univ.filter fun j => j < i ∧ s j = T) := by
      ext j
      simp only [Finset.mem_filter, Finset.mem_univ, true_and, Finset.mem_insert]
      constructor
      · rintro ⟨h1, h2⟩
        rcases h1.lt_or_eq with h3 | h3
        · exact Or.inr ⟨h3, h2⟩
        · exact Or.inl h3
      · rintro (h1 | ⟨h1, h2⟩)
        · subst h1; exact ⟨le_refl _, h.symm⟩
        · exact ⟨h1.le, h2⟩
    have e3 := Finset.card_insert_of_notMem (a := i) (s := Finset.univ.filter fun j => j < i ∧ s j = T) (by simp)
    rw [e1, e2, e3]
    constructor
    · intro hlt; exact Or.inr ⟨h.symm, by omega⟩
    · rintro (hlt | ⟨_, hle⟩)
      · rw [← h] at hlt; exact absurd hlt (lt_irrefl _)
      · omega
  · constructor
    · intro hlt
      exfalso
      have : (Finset.univ.filter fun j => T ≤ s j).card ≤ rank s i := by
        unfold rank
        refine Finset.card_le_card fun j hj => ?_
        simp only [Finset.mem_filter, Finset.mem_univ, true_and] at hj ⊢
        exact Or.inl (h.trans_le hj)
      omega
    · rintro (h1 | ⟨h1, _⟩)
      · exact absurd h1 (not_lt.mpr h.le)
      · exact absurd h1 h.ne

/-- A sum over the first `k` entries of a function of their values: the sum over the entries above the threshold, and the
    value at the threshold as often as is still wanted. -/
theorem sum_rank_lt {M : Type} [AddCommMonoid M] (s : Fin n → α) (f : α → M) (T : α) (k : ℕ) (hk : k ≤ n)
    (hgt : (Finset.univ.filter fun j => T < s j).card < k) (hge : k ≤ (Finset.univ.filter fun j => T ≤ s j).card) :
    ∑ i ∈ Finset.univ.filter (fun i => rank s i < k), f (s i)
      = ∑ i ∈ Finset.univ.filter (fun i => T < s i), f (s i) + (k - (Finset.univ.filter fun j => T < s j).card) • f T := by
  have hsplit : Finset.univ.filter (fun i => rank s i < k)
      = Finset.univ.filter (fun i => T < s i) ∪ Finset.univ.filter (fun i => rank s i < k ∧ s i = T) := by
    ext i
    simp only [Finset.mem_filter, Finset.mem_univ, true_and, Finset.mem_union]
    have := rank_lt_iff s T k hgt hge i
    tauto
  have hdisj : Disjoint (Finset.univ.filter (fun i => T < s i)) (Finset.univ.filter (fun i => rank s i < k ∧ s i = T)) := by
    rw [Finset.disjoint_filter]
    rintro j _ h1 ⟨_, h2⟩
    rw [h2] at h1; exact lt_irrefl _ h1
  have hcard : (Finset.univ.filter (fun i => rank s i < k ∧ s i = T)).card = k - (Finset.univ.filter fun j => T < s j).card := by
    have := card_rank_lt s hk
    rw [hsplit, Finset.card_union_of_disjoint hdisj] at this
    omega
  rw [hsplit, Finset.sum_union hdisj, ← hcard]
  congr 1
  rw [Finset.sum_congr rfl (g := fun _ => f T) (fun i hi => by
    simp only [Finset.mem_filter, Finset.mem_univ, true_and] at hi
    rw [hi.2]), Finset.sum_const]

/-! ## The stable sort -/

/-- Two relations that agree wherever the later of two entries is asked against the earlier sort alike. -/
theorem stableSort_congr_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

/-- The stable descending sort of the positions is the sort by place. -/
theorem sortPositions_desc (s : Fin n → α) :
    sortPositions n (fun k k' => decide (s k' < s k)) = sortPositions n (fun k k' => decide (rank s k < rank s k')) := by
  unfold sortPositions
  refine stableSort_congr_later _ _ _ ((List.pairwise_lt_finRange n).imp fun {a b} hab => ?_)
  rw [decide_eq_decide, rank_lt_rank_iff]
  constructor
  · exact Or.inl
  · rintro (h | ⟨_, h⟩)
    · exact h
    · exact absurd h (not_lt.mpr (le_of_lt hab))

/-- WHAT THE STABLE SORT PUTS WHERE: at position `r` of the descending sort stands the entry of place `r`. -/
theorem rank_sortedFrom (s : Fin n → α) (r : Fin n) : rank s (sortedFrom (fun k k' => decide (s k' < s k)) r) = r.val := by
  have he : sortedFrom (fun k k' : Fin n => decide (s k' < s k)) = sortedFrom (fun k k' => decide (rank s k < rank s k')) := by
    funext r
    unfold sortedFrom
    rw [List.get_of_eq (sortPositions_desc s)]
    rfl
  rw [he]
  set π := sortedFrom (fun k k' : Fin n => decide (rank s k < rank s k')) with hπ
  have hmono : StrictMono (fun r : Fin n => (⟨rank s (π r), rank_lt s _⟩ : Fin n)) := by
    intro i j hij
    have h := sortedFrom_noInversion (fun k k' : Fin n => decide (rank s k < rank s k')) (fun k k' => decide (rank s k < rank s k'))
      (fun a b h => by simp only [decide_eq_true_eq, decide_eq_false_iff_not] at h ⊢; omega) (fun _ _ h => h)
      (fun a b c h1 h2 => by simp only [decide_eq_false_iff_not] at h1 h2 ⊢; omega) i j hij
    simp only [decide_eq_false_iff_not, not_lt] at h
    have hne : rank s (π i) ≠ rank s (π j) := fun e =>
      absurd (sortedFrom_injective _ (rank_injective s e)) hij.ne
    exact Fin.mk_lt_mk.mpr (lt_of_le_of_ne h hne)
  have h1 := hmono.id_le r
  have h2 := hmono.le_id r
  have := le_antisymm h2 h1
  exact congrArg Fin.val this

end Rank

end Cert.Math

end
-- ==== Proof.Flat.lean ====
module

public import proofs.«01_k».proof.Proof.Consts
public import proofs.«01_k».proof.Proof.Rank
public import proofs.«01_k».proof.Proof.Blocks
public import proofs.«01_k».proof.Proof.Threshold

@[expose] public section

noncomputable section

/-! A row of 32768 entries as 256 blocks of 128, the running count of ties over it, and the attention weights of a row. -/

namespace Cert.Math

open Idealize.ShloMosaic

/-- Entry `l` of block `b`, by its place in the row. -/
def place (b : Fin 256) (l : Fin 128) : Fin 32768 := ⟨b.val * 128 + l.val, by have := b.isLt; have := l.isLt; omega⟩

/-- Blocks and offsets number the row's entries. -/
def flatten : Fin 256 × Fin 128 ≃ Fin 32768 where
  toFun x := place x.1 x.2
  invFun i := (⟨i.val / 128, by have := i.isLt; omega⟩, ⟨i.val % 128, Nat.mod_lt _ (by decide)⟩)
  left_inv x := by
    have := x.2.isLt
    refine Prod.ext (Fin.ext ?_) (Fin.ext ?_) <;> simp only [place] <;> omega
  right_inv i := by
    refine Fin.ext ?_
    simp only [place]
    omega

/-- A row laid out flat. -/
def flat (s : Fin 256 → Fin 128 → EReal) (i : Fin 32768) : EReal := s (flatten.symm i).1 (flatten.symm i).2

/-- The flat row at the place of a block and an offset is the entry there. -/
theorem flat_place (s : Fin 256 → Fin 128 → EReal) (b : Fin 256) (l : Fin 128) : flat s (place b l) = s b l := by
  have h : flatten.symm (place b l) = (b, l) := flatten.symm_apply_apply (b, l)
  unfold flat
  rw [h]

/-- Counting over the flat row is counting over blocks and offsets. -/
theorem card_flat (s : Fin 256 → Fin 128 → EReal) (p : EReal → Prop) [DecidablePred p] :
    (Finset.univ.filter fun i => p (flat s i)).card = (Finset.univ.filter fun x : Fin 256 × Fin 128 => p (s x.1 x.2)).card := by
  refine Finset.card_equiv flatten.symm fun i => ?_
  rw [Finset.mem_filter, Finset.mem_filter]
  simp only [Finset.mem_univ, true_and]
  exact Iff.rfl

/-- So is summing. -/
theorem sum_flat {M : Type} [AddCommMonoid M] (s : Fin 256 → Fin 128 → EReal) (f : EReal → M) (p : EReal → Prop) [DecidablePred p] :
    ∑ i ∈ Finset.univ.filter (fun i => p (flat s i)), f (flat s i)
      = ∑ x ∈ Finset.univ.filter (fun x : Fin 256 × Fin 128 => p (s x.1 x.2)), f (s x.1 x.2) := by
  refine Finset.sum_equiv flatten.symm (fun i => ?_) (fun i _ => rfl)
  rw [Finset.mem_filter, Finset.mem_filter]
  simp only [Finset.mem_univ, true_and]
  exact Iff.rfl

/-- And taking the maximum. -/
theorem max_flat (s : Fin 256 → Fin 128 → EReal) :
    Finset.univ.fold max ⊥ (flat s) = Finset.univ.fold max ⊥ (fun b => Finset.univ.fold max ⊥ (s b)) := by
  rw [fold_max_prod s]
  refine le_antisymm (fold_max_le _ _ fun i => ?_) (fold_max_le _ _ fun x => ?_)
  · exact le_fold_max (fun z : Fin 256 × Fin 128 => s z.1 z.2) (flatten.symm i)
  · have := le_fold_max (flat s) (place x.1 x.2)
    rwa [flat_place] at this

/-- One entry is no later than another when its block is earlier, or the same with no later offset. -/
theorem place_le (b b' : Fin 256) (l l' : Fin 128) : place b' l' ≤ place b l ↔ (b' < b ∨ (b' = b ∧ l' ≤ l)) := by
  simp only [place, Fin.mk_le_mk, Fin.lt_def, Fin.ext_iff, Fin.le_def]
  have := l.isLt
  have := l'.isLt
  omega

/-- How many entries with a property stand at or before one, block by block. -/
theorem card_prefix (p : Fin 256 → Fin 128 → Prop) [∀ b l, Decidable (p b l)] (b : Fin 256) (l : Fin 128) :
    (Finset.univ.filter fun i => i ≤ place b l ∧ p (flatten.symm i).1 (flatten.symm i).2).card
        + (Finset.univ.filter fun k => p b k).card
      = (Finset.univ.filter fun k => p b k ∧ k ≤ l).card
        + ∑ b' : Fin 256, if b' ≤ b then (Finset.univ.filter fun k => p b' k).card else 0 := by
  have e1 : (Finset.univ.filter fun i => i ≤ place b l ∧ p (flatten.symm i).1 (flatten.symm i).2).card
      = ∑ b' : Fin 256, (Finset.univ.filter fun k => (b' < b ∨ (b' = b ∧ k ≤ l)) ∧ p b' k).card := by
    rw [Finset.card_equiv (t := Finset.univ.filter fun x : Fin 256 × Fin 128 => (x.1 < b ∨ (x.1 = b ∧ x.2 ≤ l)) ∧ p x.1 x.2)
      flatten.symm]
    · simp only [Finset.card_filter]
      exact Fintype.sum_prod_type _
    · intro i
      have hi : i = place (flatten.symm i).1 (flatten.symm i).2 := (flatten.apply_symm_apply i).symm
      simp only [Finset.mem_filter, Finset.mem_univ, true_and]
      conv_lhs => rw [hi, place_le]
      rw [← hi]
  have e2 : ∀ b' : Fin 256, (Finset.univ.filter fun k => (b' < b ∨ (b' = b ∧ k ≤ l)) ∧ p b' k).card
      = (if b' < b then (Finset.univ.filter fun k => p b' k).card else 0)
        + (if b' = b then (Finset.univ.filter fun k => p b k ∧ k ≤ l).card else 0) := by
    intro b'
    by_cases h1 : b' < b
    · simp [h1, h1.ne]
    · by_cases h2 : b' = b
      · subst h2
        simp [and_comm]
      · simp [h1, h2]
  have e3 : ∀ b' : Fin 256, (if b' ≤ b then (Finset.univ.filter fun k => p b' k).card else 0)
      = (if b' < b then (Finset.univ.filter fun k => p b' k).card else 0)
        + (if b' = b then (Finset.univ.filter fun k => p b k).card else 0) := by
    intro b'
    by_cases h1 : b' < b
    · simp [h1, h1.le, h1.ne]
    · by_cases h2 : b' = b
      · subst h2; simp
      · have : ¬ b' ≤ b := fun h => h1 (lt_of_le_of_ne h h2)
        simp [h1, h2, this]
  rw [e1, Finset.sum_congr rfl fun b' _ => e2 b', Finset.sum_congr rfl fun b' _ => e3 b', Finset.sum_add_distrib,
    Finset.sum_add_distrib]
  simp only [Finset.sum_ite_eq', Finset.mem_univ, if_true]
  omega

/-- THE RUNNING COUNT as it is computed: within the block, plus the blocks so far less this one. -/
theorem running_count (p : Fin 256 → Fin 128 → Prop) [∀ b l, Decidable (p b l)] (b : Fin 256) (l : Fin 128) :
    (∑ k : Fin 128, (if p b k then (1 : EReal) else 0) * (if k ≤ l then 1 else 0))
        + ((∑ b' : Fin 256, (∑ k : Fin 128, if p b' k then (1 : EReal) else 0) * (if b' ≤ b then 1 else 0))
          - ∑ k : Fin 128, if p b k then (1 : EReal) else 0)
      = (((Finset.univ.filter fun i => i ≤ place b l ∧ p (flatten.symm i).1 (flatten.symm i).2).card : ℕ) : EReal) := by
  have h1 : (∑ k : Fin 128, (if p b k then (1 : EReal) else 0) * (if k ≤ l then 1 else 0))
      = (((Finset.univ.filter fun k => p b k ∧ k ≤ l).card : ℕ) : EReal) := by
    rw [← sum_ones]
    refine Finset.sum_congr rfl fun k _ => ?_
    by_cases h : p b k <;> by_cases h' : k ≤ l <;> simp [h, h']
  have h2 : (∑ b' : Fin 256, (∑ k : Fin 128, if p b' k then (1 : EReal) else 0) * (if b' ≤ b then 1 else 0))
      = ((∑ b' : Fin 256, if b' ≤ b then (Finset.univ.filter fun k => p b' k).card else 0 : ℕ) : EReal) := by
    rw [Nat.cast_sum]
    refine Finset.sum_congr rfl fun b' _ => ?_
    rw [sum_ones]
    by_cases h : b' ≤ b <;> simp [h]
  have hsub : ∀ x y : ℕ, y ≤ x → ((x : ℕ) : EReal) - ((y : ℕ) : EReal) = ((x - y : ℕ) : EReal) := by
    intro x y hxy
    have h3 : ∀ k : ℕ, ((k : ℕ) : EReal) = ((k : ℝ) : EReal) := fun k => by norm_cast
    rw [h3, h3, h3, ← EReal.coe_sub, Nat.cast_sub hxy]
  have hle : (Finset.univ.filter fun k => p b k).card
      ≤ ∑ b' : Fin 256, if b' ≤ b then (Finset.univ.filter fun k => p b' k).card else 0 := by
    have := Finset.single_le_sum (s := Finset.univ) (f := fun b' : Fin 256 => if b' ≤ b then (Finset.univ.filter fun k => p b' k).card else 0)
      (fun _ _ => Nat.zero_le _) (Finset.mem_univ b)
    simpa using this
  have hc := card_prefix p b l
  have key : ∀ n c a d : ℕ, c ≤ d → n + c = a + d → a + (d - c) = n := by omega
  rw [h1, h2, sum_ones, hsub _ _ hle, ← Nat.cast_add]
  exact congrArg _ (key _ _ _ _ hle hc)

/-! ## The weights of a row -/

/-- A row's greatest entry. -/
def top (S : Fin 32768 → EReal) : EReal := Finset.univ.fold max ⊥ S

/-- The attention weight of entry `i`: the softmax over the thirty-two entries that come first, zero elsewhere. -/
def weight (S : Fin 32768 → EReal) (i : Fin 32768) : EReal :=
  Ideal.div (if rank S i < 32 then Ideal.exp (S i - top S) else 0)
    (∑ j ∈ Finset.univ.filter (fun j => rank S j < 32), Ideal.exp (S j - top S))

end Cert.Math

end
-- ==== Proof.Head.lean ====
module

public import proofs.«01_k».proof.Proof.Gen.KernelIdeal.Skeleton
public import proofs.«01_k».proof.Proof.LoopValue
public import proofs.«01_k».proof.Proof.Consts
public import proofs.«01_k».proof.Proof.Flat
public import proofs.«01_k».proof.Proof.Blocks
public import proofs.«01_k».proof.Proof.Threshold
public import Idealize.ShloMosaic.Lib.WordCmp
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The weights the kernel writes for one head are the attention weights of that head's row. -/

open Cert.Math

/-- What the hypotheses of this file say of a head: its similarities are above minus infinity, and the block and head
    maxima are theirs. -/
structure HeadOk (sim : FVec Ideal S8x256x128 .f32) (bm : FVec Ideal S8x256 .f32) (rm : FVec Ideal S8x1 .f32) (h : Fin 8) : Prop where
  real : ∀ b l, (⊥ : EReal) < sim (ix3 h b l)
  block : ∀ b, bm (ix2 h b) = Finset.univ.fold max ⊥ (fun l : Fin 128 => (sim (ix3 h b l) : EReal))
  head : rm (ix2 h 0) = Finset.univ.fold max ⊥ (fun b : Fin 256 => Finset.univ.fold max ⊥ (fun l : Fin 128 => (sim (ix3 h b l) : EReal)))

/-- Head `h`'s similarities by block and offset. -/
def row (sim : FVec Ideal S8x256x128 .f32) (h : Fin 8) (b : Fin 256) (l : Fin 128) : EReal := sim (ix3 h b l)

section

variable (sim : FVec Ideal S8x256x128 .f32) (bm : FVec Ideal S8x256 .f32) (rm : FVec Ideal S8x1 .f32) (h : Fin 8)

/-- The blocks chosen for a head. -/
def chosenBlock (t : Fin 32) : Fin 256 := choice bm h t.val

/-- The threshold found for a head. -/
def threshold : EReal := (thrLoop (candArr sim (chosen bm)) rm).2.1 (ix3 h 0 0)

/-- What the kernel writes for one entry, spelled out from what the stages hold. -/
theorem weight_spelled (b : Fin 256) (l : Fin 128) (v168 v177 v188 : FVec Ideal S8x1x1 .f32) (T : FVec Ideal S8x1x1 .f32) :
    k0_pay45 sim T v168 v177 v188 (k0_pay42 sim T) (k0_pay43 sim T) (k0_pay44 sim T) (iota .tc S256x256 32 [0] iota_S256x256_d0_w32) (ix3 h b l)
      = Ideal.div (if T (ix3 h 0 0) < row sim h b l ∨ (row sim h b l = T (ix3 h 0 0)
          ∧ (∑ k : Fin 128, (if row sim h b k = T (ix3 h 0 0) then (1 : EReal) else 0) * (if k ≤ l then 1 else 0))
            + ((∑ b' : Fin 256, (∑ k : Fin 128, if row sim h b' k = T (ix3 h 0 0) then (1 : EReal) else 0) * (if b' ≤ b then 1 else 0))
              - ∑ k : Fin 128, if row sim h b k = T (ix3 h 0 0) then (1 : EReal) else 0) ≤ v177 (ix3 h 0 0))
          then Ideal.exp (row sim h b l - v168 (ix3 h 0 0)) else 0) (v188 (ix3 h 0 0)) := by
  pointwise [k0_pay45, k0_pay42, k0_pay43, k0_pay44]
  have hsle : ∀ x y : ℕ, x < 256 → y < 256 → IntOp.cmpi CmpIPredicate.sle (BitVec.ofNat 32 x) (BitVec.ofNat 32 y) = BitVec.ofBool (decide (x ≤ y)) :=
    fun x y hx hy => WordCmp.cmpi_sle_ofNat (by omega) (by omega)
  have h1 : ∀ x y : Fin 128, IntOp.cmpi CmpIPredicate.sle (BitVec.ofNat 32 x.val) (BitVec.ofNat 32 y.val) = BitVec.ofBool (decide (x ≤ y)) :=
    fun x y => hsle _ _ (by omega) (by omega)
  have h2 : ∀ x y : Fin 256, IntOp.cmpi CmpIPredicate.sle (BitVec.ofNat 32 x.val) (BitVec.ofNat 32 y.val) = BitVec.ofBool (decide (x ≤ y)) :=
    fun x y => hsle _ _ (by omega) (by omega)
  have h3 : ∀ p : Prop, [Decidable p] → ((0 : EReal) < (if p then 1 else 0)) = p := by
    intro p _
    by_cases hp : p <;> simp [hp]
  simp only [h1, h2, bit_num, WordCmp.andi_ofBool, WordCmp.ori_ofBool, ← Bool.decide_and, ← Bool.decide_or, h3, Scalar.select,
    WordCmp.ofBool_eq_one_iff', decide_eq_true_iff]
  rfl

variable {sim bm rm h} (ok : HeadOk sim bm rm h)

include ok

/-- No block's greatest entry is minus infinity. -/
theorem bm_real (j : Fin 256) : (⊥ : EReal) < bm (ix2 h j) := by
  rw [ok.block]
  exact lt_of_lt_of_le (ok.real j 0) (le_fold_max (fun l : Fin 128 => (sim (ix3 h j l) : EReal)) 0)

/-- No block is chosen twice. -/
theorem chosen_injective : Function.Injective (chosenBlock bm h) :=
  choice_injective (fun j => (bm (ix2 h j) : EReal)) (fun t j => (carried bm t (ix2 h j) : EReal)) (choice bm h) (fun _ => rfl)
    (fun t j => carried_step bm h t j) (fun t j => choice_max bm h t j) (fun j => bm_real ok j) 32 (by decide)

/-- The threshold separates the candidates. -/
theorem threshold_separates :
    Separates 32 (fun x : Fin 32 × Fin 128 => row sim h (chosenBlock bm h x.1) x.2) (threshold sim bm rm h) := by
  have := thr_separates (candArr sim (chosen bm)) rm h (fun t l => by rw [cand_at]; exact ok.real _ _)
  simp only [cand_at] at this
  exact this

/-- Every entry above the threshold is a candidate. -/
theorem above_row :
    (Finset.univ.filter fun y : Fin 256 × Fin 128 => threshold sim bm rm h < row sim h y.1 y.2)
      = (Finset.univ.filter fun x : Fin 32 × Fin 128 => threshold sim bm rm h < row sim h (chosenBlock bm h x.1) x.2).map
          (pick (chosenBlock bm h) (chosen_injective ok)) :=
  above_eq (row sim h) (fun j => (bm (ix2 h j) : EReal)) (chosenBlock bm h) (threshold sim bm rm h) (chosen_injective ok)
    (fun b l => by
      show row sim h b l ≤ bm (ix2 h b)
      rw [ok.block]
      exact le_fold_max (fun l : Fin 128 => (sim (ix3 h b l) : EReal)) l)
    (fun b => by
      show ∃ l, row sim h b l = bm (ix2 h b)
      rw [ok.block]
      exact fold_max_mem _)
    (choice_dominates (fun j => (bm (ix2 h j) : EReal)) (fun t j => (carried bm t (ix2 h j) : EReal)) (choice bm h) (fun _ => rfl)
      (fun t j => carried_step bm h t j) (fun t j => choice_max bm h t j) (fun j => bm_real ok j) 32 (by decide))
    (threshold_separates ok).1

/-- So fewer than thirty-two entries of the flat row exceed the threshold. -/
theorem flat_above_card :
    (Finset.univ.filter fun i => threshold sim bm rm h < flat (row sim h) i).card
      = (Finset.univ.filter fun x : Fin 32 × Fin 128 => threshold sim bm rm h < row sim h (chosenBlock bm h x.1) x.2).card := by
  rw [card_flat (row sim h) (fun v => threshold sim bm rm h < v), above_row ok, Finset.card_map]

/-- Fewer than thirty-two entries of the flat row exceed the threshold. -/
theorem flat_above_lt : (Finset.univ.filter fun i => threshold sim bm rm h < flat (row sim h) i).card < 32 := by
  rw [flat_above_card ok]
  exact (threshold_separates ok).1

/-- And at least thirty-two reach it. -/
theorem flat_reach : 32 ≤ (Finset.univ.filter fun i => threshold sim bm rm h ≤ flat (row sim h) i).card := by
  rw [card_flat (row sim h) (fun v => threshold sim bm rm h ≤ v)]
  exact (threshold_separates ok).2.trans (reach_le (row sim h) (chosenBlock bm h) _ (chosen_injective ok))

/-- Sums over the entries above the threshold are sums over the candidates above it. -/
theorem flat_above_sum (f : EReal → EReal) :
    ∑ i ∈ Finset.univ.filter (fun i => threshold sim bm rm h < flat (row sim h) i), f (flat (row sim h) i)
      = ∑ t : Fin 32, ∑ l : Fin 128, (if threshold sim bm rm h < row sim h (chosenBlock bm h t) l then (1 : EReal) else 0)
          * f (row sim h (chosenBlock bm h t) l) := by
  rw [sum_flat (row sim h) f (fun v => threshold sim bm rm h < v), above_row ok, Finset.sum_map, Finset.sum_filter,
    Fintype.sum_prod_type]
  refine Finset.sum_congr rfl fun t _ => Finset.sum_congr rfl fun l _ => ?_
  rw [ite_mul, one_mul, zero_mul]
  rfl

/-- The head maximum is the row's. -/
theorem head_top : rm (ix2 h 0) = top (flat (row sim h)) := by
  unfold top
  rw [ok.head, max_flat]
  rfl

/-- The number of places left for ties. -/
theorem places_left :
    k0_pay40 (candArr sim (chosen bm)) (thrLoop (candArr sim (chosen bm)) rm).2.1 (ix3 h 0 0)
      = ((32 : ℕ) : EReal) - (((Finset.univ.filter fun i => threshold sim bm rm h < flat (row sim h) i).card : ℕ) : EReal) := by
  rw [flat_above_card ok, ← sum_ones, Fintype.sum_prod_type]
  pointwise [k0_pay40, k0_pay39]
  simp only [bit_num, cand_at, bits_32]
  rfl

/-- The denominator is the sum of the exponentials over the thirty-two first entries. -/
theorem denominator :
    k0_pay41 rm (candArr sim (chosen bm)) (thrLoop (candArr sim (chosen bm)) rm).2.1 (ix3 h 0 0)
      = ∑ j ∈ Finset.univ.filter (fun j => rank (flat (row sim h)) j < 32), Ideal.exp (flat (row sim h) j - top (flat (row sim h))) := by
  have hs := sum_rank_lt (flat (row sim h)) (fun v => Ideal.exp (v - top (flat (row sim h)))) (threshold sim bm rm h) 32
    (by decide) (flat_above_lt ok) (flat_reach ok)
  rw [hs, flat_above_sum ok (fun v => Ideal.exp (v - top (flat (row sim h)))), EReal.nsmul_eq_mul, ← head_top ok]
  have hp := places_left ok
  have hc : ((32 - (Finset.univ.filter fun i => threshold sim bm rm h < flat (row sim h) i).card : ℕ) : EReal)
      = ((32 : ℕ) : EReal) - (((Finset.univ.filter fun i => threshold sim bm rm h < flat (row sim h) i).card : ℕ) : EReal) :=
    natCast_sub _ _ (flat_above_lt ok).le
  rw [hc, ← hp]
  pointwise [k0_pay41, k0_pay40, k0_pay39, k0_pay38]
  simp only [bit_num, cand_at]
  rfl

/-- THE WEIGHTS of a head are the attention weights of its flat row. -/
theorem head_weight (b : Fin 256) (l : Fin 128) :
    k0_pay45 sim (thrLoop (candArr sim (chosen bm)) rm).2.1 (k0_pay38 rm)
        (k0_pay40 (candArr sim (chosen bm)) (thrLoop (candArr sim (chosen bm)) rm).2.1)
        (k0_pay41 rm (candArr sim (chosen bm)) (thrLoop (candArr sim (chosen bm)) rm).2.1)
        (k0_pay42 sim (thrLoop (candArr sim (chosen bm)) rm).2.1) (k0_pay43 sim (thrLoop (candArr sim (chosen bm)) rm).2.1)
        (k0_pay44 sim (thrLoop (candArr sim (chosen bm)) rm).2.1) (iota .tc S256x256 32 [0] iota_S256x256_d0_w32) (ix3 h b l)
      = weight (flat (row sim h)) (place b l) := by
  have h38 : k0_pay38 rm (ix3 h 0 0) = rm (ix2 h 0) := by pointwise [k0_pay38]
  have hiff := rank_lt_iff (flat (row sim h)) (threshold sim bm rm h) 32 (flat_above_lt ok) (flat_reach ok) (place b l)
  have hT : (thrLoop (candArr sim (chosen bm)) rm).2.1 (ix3 h 0 0) = threshold sim bm rm h := rfl
  rw [weight_spelled sim h, denominator ok, places_left ok, hT, running_count (fun b l => row sim h b l = threshold sim bm rm h) b l,
    h38, head_top ok]
  have hle := natCast_le_sub (Finset.univ.filter fun i => i ≤ place b l ∧ flat (row sim h) i = threshold sim bm rm h).card _
    (flat_above_lt ok).le
  unfold weight
  rw [flat_place] at hiff ⊢
  exact congrArg₂ Ideal.div (if_congr ((or_congr Iff.rfl (and_congr Iff.rfl hle)).trans hiff.symm) rfl rfl) rfl

end

end Cert.KernelIdeal.Hand

end
-- ==== Proof.Cosine.lean ====
module

public import proofs.«01_k».proof.Proof.Flat

@[expose] public section

noncomputable section

/-! The scaled cosine similarity of a key and a memory row, and why it is always a real number. -/

namespace Cert.Math

open Idealize.ShloMosaic

/-- The guard against division by zero. -/
def eps : EReal := Ideal.ofBits .f32 0x322BCC77#32

/-- A vector's length, kept away from zero. -/
def norm (v : Fin 64 → EReal) : EReal := max (Ideal.sqrt (∑ x, v x * v x)) eps

/-- The similarity of key `k` and memory row `v`, scaled by `β`. -/
def cosine (k v : Fin 64 → EReal) (β : EReal) : EReal := Ideal.div (∑ x, k x * v x) (norm k * norm v + eps) * β

/-- A finite sum of reals is a real. -/
theorem sum_real {X : Type} [Fintype X] (f : X → EReal) (r : X → ℝ) (h : ∀ x, f x = (r x : EReal)) :
    ∑ x, f x = ((∑ x, r x : ℝ) : EReal) := by
  rw [Finset.sum_congr rfl fun x _ => h x]
  exact (map_sum (⟨⟨Real.toEReal, EReal.coe_zero⟩, EReal.coe_add⟩ : ℝ →+ EReal) r Finset.univ).symm

/-- A square is never negative. -/
theorem square_nonneg (x : EReal) : 0 ≤ x * x := by
  induction x with
  | bot => simp
  | top => simp
  | coe r => rw [← EReal.coe_mul]; exact_mod_cast mul_self_nonneg r

/-- An infinite entry squares to plus infinity. -/
theorem square_top (x : EReal) (h : ¬ ∃ r : ℝ, x = (r : EReal)) : x * x = ⊤ := by
  induction x with
  | bot => simp
  | top => simp
  | coe r => exact absurd ⟨r, rfl⟩ h

/-- A length is a positive real when every entry is real, and plus infinity otherwise. -/
theorem norm_cases (v : Fin 64 → EReal) :
    ((∃ r : Fin 64 → ℝ, ∀ x, v x = (r x : EReal)) ∧ ∃ n : ℝ, 0 < n ∧ norm v = (n : EReal)) ∨ norm v = ⊤ := by
  obtain ⟨e, he, hbits⟩ := bits_eps
  by_cases hall : ∀ x, ∃ r : ℝ, v x = (r : EReal)
  · left
    choose r hr using hall
    refine ⟨⟨r, hr⟩, max (Real.sqrt (∑ x, r x * r x)) e, lt_max_of_lt_right he, ?_⟩
    have hs : ∑ x, v x * v x = ((∑ x, r x * r x : ℝ) : EReal) := sum_real _ _ fun x => by rw [hr, EReal.coe_mul]
    have hnn : 0 ≤ ∑ x, r x * r x := Finset.sum_nonneg fun x _ => mul_self_nonneg _
    unfold norm eps
    have hq : Ideal.sqrt ((∑ x, r x * r x : ℝ) : EReal) = ((Real.sqrt (∑ x, r x * r x) : ℝ) : EReal) := if_neg (not_lt.mpr hnn)
    rw [hs, hbits, hq]
    exact (EReal.coe_strictMono.monotone.map_max).symm
  · right
    push Not at hall
    obtain ⟨x, hx⟩ := hall
    have hs : ∑ x, v x * v x = ⊤ := by
      refine top_le_iff.mp ?_
      rw [← square_top (v x) (fun ⟨r, h⟩ => hx r h)]
      exact Finset.single_le_sum (f := fun x => v x * v x) (fun y _ => square_nonneg _) (Finset.mem_univ x)
    unfold norm
    rw [hs]
    exact top_le_iff.mp (le_max_left _ _)

/-- Lengths are positive. -/
theorem norm_pos (v : Fin 64 → EReal) : 0 < norm v := by
  rcases norm_cases v with ⟨_, n, hn, e⟩ | e
  · rw [e]; exact_mod_cast hn
  · rw [e]; exact EReal.zero_lt_top

/-- THE SIMILARITY IS REAL whenever its scale is, whatever the key and the memory row hold. -/
theorem cosine_real (k v : Fin 64 → EReal) (β : EReal) (hβ : ∃ b : ℝ, β = (b : EReal)) : ∃ r : ℝ, cosine k v β = (r : EReal) := by
  obtain ⟨b, rfl⟩ := hβ
  obtain ⟨e, he, hbits⟩ := bits_eps
  have hzero : norm k * norm v = ⊤ → ∃ r : ℝ, cosine k v (b : EReal) = (r : EReal) := by
    intro h
    refine ⟨0, ?_⟩
    have ht : norm k * norm v + eps = ⊤ := by
      unfold eps
      rw [h, hbits]; rfl
    unfold cosine Ideal.div
    rw [ht, if_neg EReal.top_ne_zero, EReal.inv_top, mul_zero, zero_mul]; rfl
  rcases norm_cases k with ⟨⟨rk, hk⟩, n, hn, ek⟩ | ek
  · rcases norm_cases v with ⟨⟨rv, hv⟩, n', hn', ev⟩ | ev
    · have hd : norm k * norm v + eps = ((n * n' + e : ℝ) : EReal) := by
        unfold eps
        rw [ek, ev, hbits, EReal.coe_add, EReal.coe_mul]
      have hpos : 0 < n * n' + e := by positivity
      have hs : ∑ x, k x * v x = ((∑ x, rk x * rv x : ℝ) : EReal) := sum_real _ _ fun x => by rw [hk, hv, EReal.coe_mul]
      refine ⟨(∑ x, rk x * rv x) * (n * n' + e)⁻¹ * b, ?_⟩
      unfold cosine Ideal.div
      rw [hd, hs, if_neg (by exact_mod_cast hpos.ne'), EReal.coe_mul, EReal.coe_mul, EReal.coe_inv]
    · exact hzero (by rw [ev]; exact EReal.mul_top_of_pos (norm_pos k))
  · exact hzero (by rw [ek]; exact EReal.top_mul_of_pos (norm_pos v))

/-- A row built entry by entry, laid out flat. -/
theorem flat_of_place (f : Fin 32768 → EReal) : flat (fun b l => f (place b l)) = f := by
  funext i
  exact congrArg f (flatten.apply_symm_apply i)

/-- The similarities of head `h` in one batch row. -/
def sims (keys : Fin 8 → Fin 64 → EReal) (mem : Fin 32768 → Fin 64 → EReal) (β : Fin 8 → EReal) (h : Fin 8) (i : Fin 32768) : EReal :=
  cosine (keys h) (mem i) (β h)

/-- The memory read by head `h`: the rows weighted by their attention. -/
def readout (keys : Fin 8 → Fin 64 → EReal) (mem : Fin 32768 → Fin 64 → EReal) (β : Fin 8 → EReal) (h : Fin 8) (d : Fin 64) : EReal :=
  ∑ i : Fin 32768, weight (sims keys mem β h) i * mem i d

/-- The first result's entry: the heads' readouts, head after head, through the merging matrix, plus the bias. -/
def merged (keys : Fin 8 → Fin 64 → EReal) (mem : Fin 32768 → Fin 64 → EReal) (β : Fin 8 → EReal)
    (W : Fin 64 → Fin 512 → EReal) (bias : Fin 64 → EReal) (o : Fin 64) : EReal :=
  (∑ h : Fin 8, ∑ d : Fin 64, readout keys mem β h d
    * W o ⟨h.val * 64 + d.val, by have := h.isLt; have := d.isLt; omega⟩) + bias o

end Cert.Math

end
-- ==== Proof.OutBlocks.lean ====
module

public import proofs.«01_k».proof.Proof.Gen.KernelIdeal.Skeleton
public import proofs.«01_k».proof.Proof.Head
public import proofs.«01_k».proof.Proof.Consts
public import proofs.«01_k».proof.Proof.Flat
public import proofs.«01_k».proof.Proof.Cosine
public import proofs.«01_k».proof.Proof.Blocks
public import proofs.«01_k».proof.Proof.Threshold
public import Idealize.ShloMosaic.Lib.WordCmp
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! What the kernel leaves in its two output blocks for one batch row. -/

open Cert.Math

section

variable (x0 : Vec Ideal S1x32768x64 .f32) (x1 : Vec Ideal S1x8x64 .f32) (x2 : Vec Ideal S1x1x8 .f32)

/-- The keys, the memory rows and the scales of a batch row's blocks. -/
def keysOf (h : Fin 8) (x : Fin 64) : EReal := x1 (ix3 0 h x)
/-- The memory rows of a batch row's block. -/
def memOf (i : Fin 32768) (x : Fin 64) : EReal := x0 (ix3 0 i x)
/-- The scales of a batch row's block, by head. -/
def scaleOf (h : Fin 8) : EReal := x2 (ix3 0 0 h)

/-- The squared lengths of the memory rows. -/
theorem msq_at (b : Fin 256) (l : Fin 128) : msqArr x0 (ix2 b l) = ∑ x : Fin 64, memOf x0 (place b l) x * memOf x0 (place b l) x := by
  have hp : ∀ hlt, (⟨4096 * (b.val / 32) + (b.val % 32 * 128 + l.val), hlt⟩ : Fin 32768) = place b l := fun hlt => Fin.ext (by
    simp only [place]; omega)
  pointwise [msqArr, k0_pay5, chunk]
  simp only [hp]
  rfl

/-- The guarded length of a key. -/
theorem knorm_at (h : Fin 8) : k0_pay4 x1 (ix2 h 0) = norm (keysOf x1 h) := by
  pointwise [k0_pay4, k0_pay2]
  rfl

/-- A similarity. -/
theorem sim_at (h : Fin 8) (b : Fin 256) (l : Fin 128) :
    simArr x0 x1 x2 (ix3 h b l) = sims (keysOf x1) (memOf x0) (scaleOf x2) h (place b l) := by
  unfold sims cosine
  have hm : norm (memOf x0 (place b l)) = max (Ideal.sqrt (msqArr x0 (ix2 b l))) eps := by rw [msq_at]; rfl
  rw [← knorm_at, hm]
  pointwise [simArr, k0_pay15, k0_pay1, k0_pay2, k0_pay3]
  rfl

/-- The rows agree with the stated similarities. -/
theorem flat_sim (h : Fin 8) : flat (row (simArr x0 x1 x2) h) = sims (keysOf x1) (memOf x0) (scaleOf x2) h := by
  have e : row (simArr x0 x1 x2) h = fun b l => sims (keysOf x1) (memOf x0) (scaleOf x2) h (place b l) := by
    funext b l
    exact sim_at x0 x1 x2 h b l
  rw [e, flat_of_place]

/-- The block maxima. -/
theorem bm_at (h : Fin 8) (b : Fin 256) :
    bmArr x0 x1 x2 (ix2 h b) = Finset.univ.fold max ⊥ (fun l : Fin 128 => (simArr x0 x1 x2 (ix3 h b l) : EReal)) := by
  pointwise [bmArr, k0_pay16]
  rw [bits_bot]
  rfl

/-- The head maxima. -/
theorem rm_at (h : Fin 8) : rmArr x0 x1 x2 (ix2 h 0)
    = Finset.univ.fold max ⊥ (fun b : Fin 256 => Finset.univ.fold max ⊥ (fun l : Fin 128 => (simArr x0 x1 x2 (ix3 h b l) : EReal))) := by
  have e : (fun b : Fin 256 => Finset.univ.fold max ⊥ (fun l : Fin 128 => (simArr x0 x1 x2 (ix3 h b l) : EReal)))
      = fun b : Fin 256 => (bmArr x0 x1 x2 (ix2 h b) : EReal) := funext fun b => (bm_at x0 x1 x2 h b).symm
  rw [e]
  pointwise [rmArr, k0_pay17]
  rw [bits_bot]
  rfl

variable {x0 x1 x2} (hβ : ∀ h, ∃ r : ℝ, scaleOf x2 h = (r : EReal))

include hβ

/-- With real scales every head is as its weights need it. -/
theorem headOk (h : Fin 8) : HeadOk (simArr x0 x1 x2) (bmArr x0 x1 x2) (rmArr x0 x1 x2) h where
  real b l := by
    rw [sim_at]
    obtain ⟨r, hr⟩ := cosine_real (keysOf x1 h) (memOf x0 (place b l)) (scaleOf x2 h) (hβ h)
    unfold sims
    rw [hr]
    exact EReal.bot_lt_coe r
  block b := bm_at x0 x1 x2 h b
  head := rm_at x0 x1 x2 h

/-- The weights as the kernel holds them before they are written. -/
theorem pay45_at (h : Fin 8) (b : Fin 256) (l : Fin 128) :
    k0_pay45 (simArr x0 x1 x2) (thrArr x0 x1 x2) (k0_pay38 (rmArr x0 x1 x2)) (k0_pay40 (candOf x0 x1 x2) (thrArr x0 x1 x2))
    (k0_pay41 (rmArr x0 x1 x2) (candOf x0 x1 x2) (thrArr x0 x1 x2)) (k0_pay42 (simArr x0 x1 x2) (thrArr x0 x1 x2))
    (k0_pay43 (simArr x0 x1 x2) (thrArr x0 x1 x2)) (k0_pay44 (simArr x0 x1 x2) (thrArr x0 x1 x2)) (iota .tc S256x256 32 [0] iota_S256x256_d0_w32)
    (ix3 h b l) = weight (sims (keysOf x1) (memOf x0) (scaleOf x2) h) (place b l) := by
  rw [← flat_sim]
  exact head_weight (headOk hβ h) b l

/-- THE WEIGHTS BLOCK. -/
theorem out6_at (h : Fin 8) (b : Fin 256) (l : Fin 128) :
    out6 x0 x1 x2 (ix4 0 h b l) = weight (sims (keysOf x1) (memOf x0) (scaleOf x2) h) (place b l) := by
  rw [← pay45_at hβ]
  pointwise [out6, k0_pay46]

/-- THE READ BLOCK. -/
theorem out5_at (x3 : Vec Ideal S8x64x64 .f32) (x4 : Vec Ideal S1x64 .f32) (o : Fin 64) :
    out5 x0 x1 x2 x3 x4 (ix3 0 0 o)
      = (∑ h : Fin 8, ∑ d : Fin 64, readout (keysOf x1) (memOf x0) (scaleOf x2) h d * x3 (ix3 h o d)) + x4 (ix2 0 o) := by
  pointwise [out5, k0_pay47, k0_pay1]
  have hp : ∀ (i : Fin 32768) (h1) (h2), place (⟨i.val / 128, h1⟩ : Fin 256) (⟨i.val % 128, h2⟩ : Fin 128) = i :=
    fun i _ _ => flatten.apply_symm_apply i
  simp only [pay45_at hβ, hp]
  rfl

end

end Cert.KernelIdeal.Hand

end
-- ==== Proof.Arrays.lean ====
module

public import proofs.«01_k».proof.Proof.Gen.KernelIdeal.Skeleton
public import proofs.«01_k».proof.Proof.OutBlocks
public import Idealize.ShloMosaic.Lib.WordCmp
public import proofs.«01_k».proof.Proof.Launch
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The kernel's two result arrays, entry by entry, in terms of its arguments. -/

open Cert.Math
open Idealize.ShloMosaic.Pipeline (Dat)

variable (m : (ℓ : Loc nD τ sig) → Buf (Elt Ideal) ℓ)

/-- Which block each window is on at a grid point: the batch row for the batched ones, the whole array for the others. -/
theorem idx : ∀ t : Fin cfg0.N, win0_0.index t = ![t.val, 0, 0] ∧ win0_1.index t = ![t.val, 0, 0] ∧ win0_2.index t = ![t.val, 0, 0]
    ∧ win0_3.index t = ![0, 0, 0] ∧ win0_4.index t = ![0, 0] ∧ win0_5.index t = ![t.val, 0, 0] ∧ win0_6.index t = ![t.val, 0, 0, 0] :=
  (by decide +kernel : ∀ t : Fin grid0.N, _)

/-- A grid point as a batch row. -/
def batch (t : Fin cfg0.N) : Fin 32 := t.cast N_0

/-- The arguments by coordinates. -/
def argMem (c : Dev nD) (b : Fin 32) (i : Fin 32768) (x : Fin 64) : EReal := m ((c : Thread nD τ).loc main_arg0) (ix3 b i x)
/-- The read keys by batch row, head and coordinate. -/
def argKeys (c : Dev nD) (b : Fin 32) (h : Fin 8) (x : Fin 64) : EReal := m ((c : Thread nD τ).loc main_arg1) (ix3 b h x)
/-- The scale β of a batch row and head. -/
def argScale (c : Dev nD) (b : Fin 32) (h : Fin 8) : EReal := m ((c : Thread nD τ).loc main_arg2) (ix2 b h)
/-- The merging weights by output and flat input coordinate. -/
def argW (c : Dev nD) (o : Fin 64) (j : Fin 512) : EReal := m ((c : Thread nD τ).loc main_arg3) (ix2 o j)
/-- The bias by output coordinate. -/
def argBias (c : Dev nD) (o : Fin 64) : EReal := m ((c : Thread nD τ).loc main_arg4) (ix1 o)

/-- The block of the first window at a grid point is the batch row's memory. -/
theorem blk_mem (c : Dev nD) (t : Fin cfg0.N) : memOf (iblk m c 0 t) = argMem m c (batch t) := by
  funext i x
  show iblk m c 0 t (ix3 0 i x) = m ((c : Thread nD τ).loc main_arg0) (ix3 (batch t) i x)
  unfold batch
  blk_ext [iblk, V, idx t]
  rfl

/-- The block of the second window at a grid point is the batch row's keys. -/
theorem blk_keys (c : Dev nD) (t : Fin cfg0.N) : keysOf (iblk m c 1 t) = argKeys m c (batch t) := by
  funext h x
  show iblk m c 1 t (ix3 0 h x) = m ((c : Thread nD τ).loc main_arg1) (ix3 (batch t) h x)
  unfold batch
  blk_ext [iblk, V, idx t]
  rfl

/-- What the region finds in the operands the host lines prepare. -/
theorem entry_scale (c : Dev nD) : V m c main_v0 = shapeCast S32x1x8 (m ((c : Thread nD τ).loc main_arg2)) shapeCasts_S32x8_S32x1x8 := by
  entry_read
  rfl

/-- The fourth operand is the merging weights, split by head and with the head axis first. -/
theorem entry_W (c : Dev nD) : V m c main_v2 = transpose S8x64x64 [1, 0, 2]
    (shapeCast S64x8x64 (m ((c : Thread nD τ).loc main_arg3)) shapeCasts_S64x512_S64x8x64) transposes_S64x8x64_S8x64x64_1_0_2 := by
  entry_read
  rfl

/-- The fifth operand is the bias as a row. -/
theorem entry_bias (c : Dev nD) : V m c main_v3 = shapeCast S1x64 (m ((c : Thread nD τ).loc main_arg4)) shapeCasts_S64_S1x64 := by
  entry_read
  rfl

/-- The block of the third window at a grid point is the batch row's scales. -/
theorem blk_scale (c : Dev nD) (t : Fin cfg0.N) : scaleOf (iblk m c 2 t) = argScale m c (batch t) := by
  funext h
  show iblk m c 2 t (ix3 0 0 h) = m ((c : Thread nD τ).loc main_arg2) (ix2 (batch t) h)
  have e : iblk m c 2 t (ix3 0 0 h) = V m c main_v0 (ix3 (batch t) 0 h) := by
    unfold batch
    blk_ext [iblk, idx t]
    rfl
  rw [e, entry_scale]
  pointwise

/-- The fourth window holds, at every grid point, the merging weights of every head. -/
theorem blk_W (c : Dev nD) (t : Fin cfg0.N) (h : Fin 8) (o d : Fin 64) :
    iblk m c 3 t (ix3 h o d) = argW m c o ⟨h.val * 64 + d.val, by have := h.isLt; have := d.isLt; omega⟩ := by
  have e : iblk m c 3 t (ix3 h o d) = V m c main_v2 (ix3 h o d) := by
    blk_ext [iblk, idx t]
  rw [e, entry_W]
  unfold argW
  pointwise

/-- The fifth window holds the bias at every grid point. -/
theorem blk_bias (c : Dev nD) (t : Fin cfg0.N) (o : Fin 64) : iblk m c 4 t (ix2 0 o) = argBias m c o := by
  have e : iblk m c 4 t (ix2 0 o) = V m c main_v3 (ix2 0 o) := by
    blk_ext [iblk, idx t]
  rw [e, entry_bias]
  unfold argBias
  pointwise

section

variable {m} (c : Dev nD) (hβ : ∀ b h, ∃ r : ℝ, argScale m c b h = (r : EReal))

/-- The second array of the region: the weights, block by block. -/
def resultW (c : Dev nD) : Buf (Elt Ideal) ((c : Thread nD τ).loc main_v4_1) :=
  fun y => weight (sims (argKeys m c (y 0)) (argMem m c (y 0)) (argScale m c (y 0)) (y 1)) (place (y 2) (y 3))

/-- The first array of the region: the merged readouts. -/
def resultO (c : Dev nD) : Buf (Elt Ideal) ((c : Thread nD τ).loc main_v4_0) :=
  fun y => merged (argKeys m c (y 0)) (argMem m c (y 0)) (argScale m c (y 0)) (argW m c) (argBias m c) (y 2)

include hβ

/-- When the launch ends, the second result array holds the weights of every batch row and head. -/
theorem final_6 : (dats m 0 c).arrAt 6 cfg0.N = resultW (m := m) c := by
  refine (dats m 0 c).arrAt_eq_of_covers 6 _ (by decide +kernel) fun t hf y => ?_
  blk_simp
  rw [after0_6]
  have hs : ∀ h, ∃ r : ℝ, scaleOf (iblk m c 2 t) h = (r : EReal) := by
    intro h
    rw [blk_scale]
    exact hβ _ h
  obtain ⟨a, h, b, l, rfl⟩ : ∃ (a : Fin 1) (h : Fin 8) (b : Fin 256) (l : Fin 128), y = ix4 a h b l := ⟨y 0, y 1, y 2, y 3, eq_ix4 y⟩
  obtain rfl : a = 0 := Subsingleton.elim _ _
  have e : (win0_6.blk t).view.emb (ix4 0 h b l) = ix4 (batch t) h b l := by
    unfold batch
    blk_ext [idx t]
    rfl
  refine (out6_at hs h b l).trans ?_
  rw [blk_mem, blk_keys, blk_scale]
  show _ = resultW c ((win0_6.blk t).view.emb (ix4 0 h b l))
  rw [e]
  rfl

/-- When the launch ends, the first result array holds the merged readouts of every batch row. -/
theorem final_5 : (dats m 0 c).arrAt 5 cfg0.N = resultO (m := m) c := by
  refine (dats m 0 c).arrAt_eq_of_covers 5 _ (by decide +kernel) fun t hf y => ?_
  blk_simp
  rw [after0_5]
  have hs : ∀ h, ∃ r : ℝ, scaleOf (iblk m c 2 t) h = (r : EReal) := by
    intro h
    rw [blk_scale]
    exact hβ _ h
  obtain ⟨a, b, o, rfl⟩ : ∃ (a : Fin 1) (b : Fin 1) (o : Fin 64), y = ix3 a b o := ⟨y 0, y 1, y 2, eq_ix3 y⟩
  obtain rfl : a = 0 := Subsingleton.elim _ _
  obtain rfl : b = 0 := Subsingleton.elim _ _
  have e : (win0_5.blk t).view.emb (ix3 0 0 o) = ix3 (batch t) 0 o := by
    unfold batch
    blk_ext [idx t]
    rfl
  refine (out5_at hs (iblk m c 3 t) (iblk m c 4 t) o).trans ?_
  simp only [blk_mem, blk_keys, blk_scale, blk_W, blk_bias]
  show _ = resultO c ((win0_5.blk t).view.emb (ix3 0 0 o))
  rw [e]
  rfl

end

end Cert.KernelIdeal.Hand

end
-- ==== Proof.Results.lean ====
module

public import proofs.«01_k».proof.Proof.Gen.KernelIdeal.Skeleton
public import proofs.«01_k».proof.Proof.Arrays
public import Idealize.ShloMosaic.Lib.WordCmp
public import proofs.«01_k».proof.Proof.Launch
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The kernel's run read back: both results, entry by entry. -/

open Cert.Math
open Idealize.ShloMosaic.Pipeline (Dat)

variable (m : (ℓ : Loc nD τ sig) → Buf (Elt Ideal) ℓ)

/-- The host lines after the region reshape the two arrays into the results. -/
theorem tail_v5 (c : Dev nD) : Pipeline.afterTail₀ cfgs (dats m) 0 (V0 m) [hostOps1] c main_v5
    = shapeCast S32x64 ((dats m 0 c).arrAt 5 cfg0.N) shapeCasts_S32x1x64_S32x64 := by
  have hg : ∀ U : Valuation τ sig (Elt Ideal), StableHlo.after [hostOps1].flatten U (Proc.devRef .tc main_v5)
      = shapeCast S32x64 (U (Proc.devRef .tc main_v4_0)) shapeCasts_S32x1x64_S32x64 := by
    intro U
    entry_read
    first | done | rfl
  unfold Pipeline.afterTail₀
  exact (hg _).trans (congrArg (fun z => shapeCast _ z _) (Pipeline.withArrays_arr spec0 (by decide) c _ _ 5))

/-- The host line after the launch that makes the second result: the weights, with blocks and offsets laid out flat. -/
theorem tail_v6 (c : Dev nD) : Pipeline.afterTail₀ cfgs (dats m) 0 (V0 m) [hostOps1] c main_v6
    = shapeCast S32x8x32768 ((dats m 0 c).arrAt 6 cfg0.N) shapeCasts_S32x8x256x128_S32x8x32768 := by
  have hg : ∀ U : Valuation τ sig (Elt Ideal), StableHlo.after [hostOps1].flatten U (Proc.devRef .tc main_v6)
      = shapeCast S32x8x32768 (U (Proc.devRef .tc main_v4_1)) shapeCasts_S32x8x256x128_S32x8x32768 := by
    intro U
    entry_read
    first | done | rfl
  unfold Pipeline.afterTail₀
  exact (hg _).trans (congrArg (fun z => shapeCast _ z _) (Pipeline.withArrays_arr spec0 (by decide) c _ _ 6))

/-- THE KERNEL'S RUN, READ: with real scales both results end at their stated entries, the arguments unchanged. -/
theorem run_results (hβ : ∀ c b h, ∃ r : ℝ, argScale m c b h = (r : EReal)) (ρ : Dev nD → PrngReg) :
    θ_run defs (onTc (τ := τ) (main (F := Ideal))) ⟨m, fun _ => 0, ρ⟩ (fun r => ∀ c : Dev nD,
      r.2.mem ((c.tc : Thread nD τ).loc main_v5) = shapeCast S32x64 (resultO (m := m) c) shapeCasts_S32x1x64_S32x64
      ∧ r.2.mem ((c.tc : Thread nD τ).loc main_v6) = shapeCast S32x8x32768 (resultW (m := m) c) shapeCasts_S32x8x256x128_S32x8x32768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv : θ_run defs (onTc (τ := τ) (main (F := Ideal))) ⟨m, fun _ => 0, ρ⟩ (fun r => ∀ c : Dev nD,
      r.2.mem ((c.tc : Thread nD τ).loc main_v5) = shapeCast S32x64 (resultO (m := m) c) shapeCasts_S32x1x64_S32x64
      ∧ r.2.mem ((c.tc : Thread nD τ).loc main_v6) = shapeCast S32x8x32768 (resultW (m := m) c) shapeCasts_S32x8x256x128_S32x8x32768) :=
    (θ_run defs _ _).mono (fun _ h c =>
      ⟨((h c).2 main_v5 (Pipeline.mem_restRefs_of main_v5 (by decide) (by decide))).trans
          ((tail_v5 m c).trans (by rw [final_5 c (hβ c)])),
        ((h c).2 main_v6 (Pipeline.mem_restRefs_of main_v6 (by decide) (by decide))).trans
          ((tail_v6 m c).trans (by rw [final_6 c (hβ c)]))⟩) (run_main m ρ)
  exact (θ_run defs _ _).mono (fun _ h c => ⟨(h.1 c).1, (h.1 c).2, h.2 c⟩) (θ_run_and hv (unchanged m ρ))

/-- The first result, entry by entry. -/
theorem resultO_at (c : Dev nD) (b : Fin 32) (o : Fin 64) :
    shapeCast S32x64 (resultO (m := m) c) shapeCasts_S32x1x64_S32x64 (ix2 b o)
      = merged (argKeys m c b) (argMem m c b) (argScale m c b) (argW m c) (argBias m c) o := by
  pointwise
  rfl

/-- The second result, entry by entry. -/
theorem resultW_at (c : Dev nD) (b : Fin 32) (h : Fin 8) (i : Fin 32768) :
    shapeCast S32x8x32768 (resultW (m := m) c) shapeCasts_S32x8x256x128_S32x8x32768 (ix3 b h i)
      = weight (sims (argKeys m c b) (argMem m c b) (argScale m c b) h) i := by
  have hp : ∀ (h1) (h2), place (⟨i.val / 128, h1⟩ : Fin 256) (⟨i.val % 128, h2⟩ : Fin 128) = i :=
    fun _ _ => flatten.apply_symm_apply i
  pointwise
  exact congrArg (weight (sims (argKeys m c b) (argMem m c b) (argScale m c b) h)) (hp _ _)

end Cert.KernelIdeal.Hand

end
-- ==== Proof.RefTerms.lean ====
module

public import proofs.«01_k».proof.Proof.Gen.ReferenceIdeal.Run
public import proofs.«01_k».proof.Proof.Cosine
public import Idealize.ShloMosaic.Lib.Routing.OpsSet
public import Idealize.ShloMosaic.Lib.Routing.OpsPair
public import Idealize.ShloMosaic.Lib.WordCmp
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-! The reference's program, stage by stage: each stage is the composed term of the reference's own operations. -/

/-- The scaled cosine similarities. -/
def simV (M : FVec Ideal S32x32768x64 .f32) (K : FVec Ideal S32x8x64 .f32) (B : FVec Ideal S32x8 .f32) : FVec Ideal S32x8x32768 .f32 :=
  (mulf (Host.divf (Host.dotGeneral dot_S32x8x64_S32x32768x64_S32x8x32768_2_2_1_1_0_0 none K M) (addf (mulf (broadcastInDim S32x8x32768 ![0, 1, 2] bcast_S32x8x1_S32x8x32768_0_1_2 (maximumf (broadcastInDim S32x8x1 ![] bcast_S_S32x8x1 (id (constant S_ .f32 0x322BCC77#32))) (Host.sqrt (broadcastInDim S32x8x1 ![0, 1] bcast_S32x8_S32x8x1_0_1 (Host.reduceAdd (mulf K K) (constant S_ .f32 0x00000000#32) reducesTo_S32x8x64_S32x8_d2 h_S_))))) (broadcastInDim S32x8x32768 ![0, 1, 2] bcast_S32x1x32768_S32x8x32768_0_1_2 (broadcastInDim S32x1x32768 ![0, 2] bcast_S32x32768_S32x1x32768_0_2 (maximumf (broadcastInDim S32x32768 ![] bcast_S_S32x32768 (id (constant S_ .f32 0x322BCC77#32))) (Host.sqrt (Host.reduceAdd (mulf M M) (constant S_ .f32 0x00000000#32) reducesTo_S32x32768x64_S32x32768_d2 h_S_)))))) (broadcastInDim S32x8x32768 ![] bcast_S_S32x8x32768 (constant S_ .f32 0x322BCC77#32)))) (broadcastInDim S32x8x32768 ![0, 1, 2] bcast_S32x8x1_S32x8x32768_0_1_2 (broadcastInDim S32x8x1 ![0, 1] bcast_S32x8_S32x8x1_0_1 B)))

/-- The similarities as 256 flat rows. -/
def rowsV (S : FVec Ideal S32x8x32768 .f32) : FVec Ideal S256x32768 .f32 := shapeCast S256x32768 S shapeCasts_S32x8x32768_S256x32768

/-- The places of each row's thirty-two first entries. -/
def placesV (R : FVec Ideal S256x32768 .f32) : IVec S256x32 32 :=
  (Host.topK S256x32 1 (FloatOps.cmpfTotal (F := Ideal) (φ := .f32) .gt) R sliceFits_S256x32768_S256x32).2

/-- The pairs of row and place that the mask is set at. -/
def pairsV (I : IVec S256x32 32) : IVec S256x32x2 32 :=
  (concatenate S256x32x2 2 [⟨S256x32x1, (broadcastInDim S256x32x1 ![0, 1] bcast_S256x32_S256x32x1_0_1 (broadcastInDim S256x32 ![0, 1] bcast_S256x1_S256x32_0_1 (select (cmpi .slt (broadcastInDim S256x1 ![0] bcast_S256_S256x1_0 (iotaInDim S256 32 0)) (broadcastInDim S256x1 ![] bcast_S_S256x1 (constantI S_ 32 0#32))) (addi (broadcastInDim S256x1 ![0] bcast_S256_S256x1_0 (iotaInDim S256 32 0)) (broadcastInDim S256x1 ![] bcast_S_S256x1 (constantI S_ 32 256#32))) (broadcastInDim S256x1 ![0] bcast_S256_S256x1_0 (iotaInDim S256 32 0)))))⟩, ⟨S256x32x1, (broadcastInDim S256x32x1 ![0, 1] bcast_S256x32_S256x32x1_0_1 (select (cmpi .slt I (broadcastInDim S256x32 ![] bcast_S_S256x32 (constantI S_ 32 0#32))) (addi I (broadcastInDim S256x32 ![] bcast_S_S256x32 (constantI S_ 32 32768#32))) I))⟩] concatenates_S256x32x1_S256x32x1_S256x32x2_d2)

/-- The mask of the chosen entries. -/
def maskV (I : IVec S256x32 32) : IVec S256x32768 1 :=
  (Host.scatter scatter_S256x32768_S256x32x2_S256x32_n_01_01_2 (fun _ b => b) (broadcastInDim S256x32768 ![] bcast_S_S256x32768 (constantI S_ 1 0#1)) (pairsV I) (broadcastInDim S256x32 ![] bcast_S_S256x32 (constantI S_ 1 1#1)))

/-- The similarities with every entry that was not chosen at minus infinity. -/
def maskedV (Q : IVec S256x32768 1) (S : FVec Ideal S32x8x32768 .f32) : FVec Ideal S32x8x32768 .f32 :=
  (select (shapeCast _ Q shapeCasts_S256x32768_S32x8x32768) S (broadcastInDim S32x8x32768 ![] bcast_S_S32x8x32768 (id (constant S_ .f32 0xFF800000#32))))

/-- Each row's maximum. -/
def reducedV (X : FVec Ideal S32x8x32768 .f32) : FVec Ideal S32x8 .f32 :=
  Host.reduce FloatOps.maximumf X (constant S_ .f32 0xFF800000#32) reducesTo_S32x8x32768_S32x8_d2 h_S_

/-- The maxima, guarded from below by minus infinity. -/
def guardedV (A : FVec Ideal S32x8 .f32) : FVec Ideal S32x8 .f32 :=
  maximumf (broadcastInDim S32x8 ![] bcast_S_S32x8 (constant S_ .f32 0xFF800000#32)) A

/-- The exponentials. -/
def expV (X : FVec Ideal S32x8x32768 .f32) (A : FVec Ideal S32x8 .f32) : FVec Ideal S32x8x32768 .f32 :=
  (Host.exp (subf X (broadcastInDim S32x8x32768 ![0, 1, 2] bcast_S32x8x1_S32x8x32768_0_1_2 (broadcastInDim S32x8x1 ![0, 1] bcast_S32x8_S32x8x1_0_1 A))))

/-- The weights. -/
def weightV (E : FVec Ideal S32x8x32768 .f32) : FVec Ideal S32x8x32768 .f32 :=
  Host.divf E (broadcastInDim S32x8x32768 ![0, 1, 2] bcast_S32x8x1_S32x8x32768_0_1_2 (broadcastInDim S32x8x1 ![0, 1] bcast_S32x8_S32x8x1_0_1 (Host.reduceAdd E (constant S_ .f32 0x00000000#32) reducesTo_S32x8x32768_S32x8_d2 h_S_)))

/-- The memory read by each head. -/
def readV (T : FVec Ideal S32x8x32768 .f32) (M : FVec Ideal S32x32768x64 .f32) : FVec Ideal S32x8x64 .f32 :=
  Host.dotGeneral dot_S32x8x32768_S32x32768x64_S32x8x64_2_1_1_2_0_0 none T M

/-- The heads merged. -/
def mergeV (O : FVec Ideal S32x8x64 .f32) (W : FVec Ideal S64x512 .f32) (b : FVec Ideal S64 .f32) : FVec Ideal S32x64 .f32 :=
  addf (Host.dotGeneral dot_S32x512_S512x64_S32x64_1_0_0_1_n_n none (shapeCast _ O shapeCasts_S32x8x64_S32x512) (transpose S512x64 [1, 0] W transposes_S64x512_S512x64_1_0)) (broadcastInDim S32x64 ![0, 1] bcast_S1x64_S32x64_0_1 (broadcastInDim S1x64 ![1] bcast_S64_S1x64_1 b))

/-- The weights, from the similarities. -/
def weightsOf (S : FVec Ideal S32x8x32768 .f32) : FVec Ideal S32x8x32768 .f32 :=
  weightV (expV (maskedV (maskV (placesV (rowsV S))) S) (guardedV (reducedV (maskedV (maskV (placesV (rowsV S))) S))))

variable (m : (ℓ : Loc nD τ sig) → Buf (Elt Ideal) ℓ) (c : Dev nD)

/-- The reference's second result is its stages in turn. -/
theorem res_weights : Value.res_main_v47 m c
    = weightsOf (simV (m ((c.tc : Thread nD τ).loc main_arg0)) (m ((c.tc : Thread nD τ).loc main_arg1)) (m ((c.tc : Thread nD τ).loc main_arg2))) := by
  unfold Value.res_main_v47 weightsOf weightV expV guardedV reducedV maskedV maskV pairsV placesV rowsV simV
  rfl

/-- And so is its first. -/
theorem res_merged : Value.res_main_v54 m c
    = mergeV (readV (weightsOf (simV (m ((c.tc : Thread nD τ).loc main_arg0)) (m ((c.tc : Thread nD τ).loc main_arg1)) (m ((c.tc : Thread nD τ).loc main_arg2))))
        (m ((c.tc : Thread nD τ).loc main_arg0))) (m ((c.tc : Thread nD τ).loc main_arg3)) (m ((c.tc : Thread nD τ).loc main_arg4)) := by
  unfold Value.res_main_v54 mergeV readV weightsOf weightV expV guardedV reducedV maskedV maskV pairsV placesV rowsV simV
  rfl

end Cert.ReferenceIdeal.Hand

end
-- ==== Proof.RefMask.lean ====
module

public import proofs.«01_k».proof.Proof.RefTerms
public import proofs.«01_k».proof.Proof.Cosine
public import proofs.«01_k».proof.Proof.Rank
public import Idealize.ShloMosaic.Lib.Routing.OpsSet
public import Idealize.ShloMosaic.Lib.Routing.OpsPair
public import Idealize.ShloMosaic.Lib.WordCmp
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Cert.Math Idealize.ShloMosaic.Routing

/-! The reference's similarities, and the mask of each row's thirty-two first entries. -/

/-- A similarity. -/
theorem simV_at (M : FVec Ideal S32x32768x64 .f32) (K : FVec Ideal S32x8x64 .f32) (B : FVec Ideal S32x8 .f32)
    (b : Fin 32) (h : Fin 8) (i : Fin 32768) :
    simV M K B (ix3 b h i) = sims (fun h x => K (ix3 b h x)) (fun i x => M (ix3 b i x)) (fun h => B (ix2 b h)) h i := by
  unfold sims cosine Cert.Math.norm
  rw [max_comm, max_comm (Ideal.sqrt (∑ x, M (ix3 b i x) * M (ix3 b i x)))]
  pointwise [simV]
  rfl

/-- Row `b * 8 + h` of the flat rows is head `h` of batch row `b`. -/
theorem rowsV_at (S : FVec Ideal S32x8x32768 .f32) (b : Fin 32) (h : Fin 8) (i : Fin 32768) (hlt) :
    rowsV S (ix2 (⟨b.val * 8 + h.val, hlt⟩ : Fin 256) i) = S (ix3 b h i) := by
  pointwise [rowsV]

/-- Entry `k` of a row's places is the place of the entry that comes `k`-th. -/
theorem placesV_at (R : FVec Ideal S256x32768 .f32) (r : Fin 256) (k : Fin 32) (hlt) :
    placesV R (ix2 r k)
      = BitVec.ofNat 32 (sortedFrom (fun i j : Fin 32768 => decide ((R (ix2 r j) : EReal) < R (ix2 r i))) ⟨k.val, hlt⟩).val := by
  have hcmp : ∀ x y : EReal, (FloatOps.cmpfTotal (F := Ideal) (φ := .f32) .gt x y == 1#1) = decide (y < x) := by
    intro x y
    show (BitVec.ofBool (decide (y < x)) == 1#1) = _
    by_cases h : y < x <;> simp [h]
  have hal : ∀ (J : S256x32768.Idx) (i : Fin 32768), J 0 = r → J.along 1 i = ix2 r i := by
    intro J i hJ
    funext a
    match a with
    | ⟨0, _⟩ => exact hJ
    | ⟨1, _⟩ => rfl
  have hio : ∀ (J : S256x32768.Idx) (q : Fin 32768), (iotaInDim S256x32768 32 1 (J.along 1 q) : BitVec 32) = BitVec.ofNat 32 q.val := by
    intro J q
    have hq : (J.along 1 q) 1 = q := Function.update_self (β := fun a => S256x32768.Coord a) 1 q J
    exact congrArg (fun z : Fin 32768 => BitVec.ofNat 32 z.val) hq
  have hs : ∀ J : S256x32768.Idx, J 0 = r → J 1 = (⟨k.val, hlt⟩ : Fin 32768) →
      (iotaInDim S256x32768 32 1 (J.along 1 (sortedFrom (fun i j => FloatOps.cmpfTotal (F := Ideal) (φ := .f32) .gt (R (J.along 1 i)) (R (J.along 1 j)) == 1#1) (J 1))) : BitVec 32)
        = BitVec.ofNat 32 (sortedFrom (fun i j : Fin 32768 => decide ((R (ix2 r j) : EReal) < R (ix2 r i))) ⟨k.val, hlt⟩).val := by
    intro J h0 h1
    have hR : (fun i j : Fin 32768 => FloatOps.cmpfTotal (F := Ideal) (φ := .f32) .gt (R (J.along 1 i)) (R (J.along 1 j)) == 1#1)
        = fun i j : Fin 32768 => decide ((R (ix2 r j) : EReal) < R (ix2 r i)) := by
      funext i j
      rw [hcmp, hal J i h0, hal J j h0]
    rw [h1]
    exact (hio J _).trans (congrArg (fun q => BitVec.ofNat 32 (sortedFrom (n := 32768) q ⟨k.val, hlt⟩).val) hR)
  refine hs _ ?_ ?_
  · exact Fin.ext (Nat.zero_add _)
  · exact Fin.ext (Nat.zero_add _)

/-- The pair's first word is the row. -/
theorem pairsV_row (I : IVec S256x32 32) (r : Fin 256) (k : Fin 32) : (pairsV I (ix3 r k 0)).toInt = (r.val : Int) := by
  have e : pairsV I (ix3 r k 0) = BitVec.ofNat 32 r.val := by
    have hr := r.isLt
    pointwise [pairsV]
    exact wrap_of_lt _ _ (by rw [WordCmp.toNat_ofNat_of_lt (by omega)]; omega)
  have hr := r.isLt
  rw [e, WordCmp.toInt_ofNat_of_lt (by omega)]

/-- Its second is the place. -/
theorem pairsV_place (I : IVec S256x32 32) (r : Fin 256) (k : Fin 32) (n : ℕ) (hn : n < 32768) (hI : I (ix2 r k) = BitVec.ofNat 32 n) :
    (pairsV I (ix3 r k 1)).toInt = (n : Int) := by
  have e : pairsV I (ix3 r k 1) = BitVec.ofNat 32 n := by
    pointwise [pairsV]
    rw [hI]
    exact wrap_of_lt _ _ (by rw [WordCmp.toNat_ofNat_of_lt (by omega)]; omega)
  rw [e, WordCmp.toInt_ofNat_of_lt (by omega)]

/-- THE MASK: an entry is marked exactly when it is among its row's thirty-two first. -/
theorem maskV_at (R : FVec Ideal S256x32768 .f32) (r : Fin 256) (i : Fin 32768) :
    maskV (placesV R) (ix2 r i) = if rank (fun j => (R (ix2 r j) : EReal)) i < 32 then 1#1 else 0#1 := by
  have hpl : ∀ (r' : Fin 256) (k : Fin 32),
      ∃ j : Fin 32768, rank (fun j => (R (ix2 r' j) : EReal)) j = k.val ∧ placesV R (ix2 r' k) = BitVec.ofNat 32 j.val := fun r' k =>
    ⟨_, rank_sortedFrom _ _, placesV_at R r' k (by omega)⟩
  have hl : ∀ (r' : Fin 256) (k : Fin 32),
      scatter_S256x32768_S256x32x2_S256x32_n_01_01_2.resultIdx? (ix2 r' k) (pairsV (placesV R)) = some (ix2 r i)
        ↔ r' = r ∧ rank (fun j => (R (ix2 r j) : EReal)) i = k.val := by
    intro r' k
    obtain ⟨j, hj, hp⟩ := hpl r' k
    refine (scatter_lands2 (R := 256) (C := 32768) (A := 256) (B := 32) (w := 32) scatter_S256x32768_S256x32x2_S256x32_n_01_01_2
      rfl rfl rfl (pairsV (placesV R)) r' k r i).trans ?_
    have e0 := pairsV_row (placesV R) r' k
    have e1 := pairsV_place (placesV R) r' k j.val j.isLt hp
    constructor
    · rintro ⟨h1, h2⟩
      have h1' : r' = r := Fin.ext (by exact_mod_cast e0.symm.trans h1)
      have h2' : j = i := Fin.ext (by exact_mod_cast e1.symm.trans h2)
      subst h1'; subst h2'
      exact ⟨rfl, hj⟩
    · rintro ⟨h1, h2⟩
      subst h1
      have : j = i := rank_injective _ (hj.trans h2.symm)
      subst this
      exact ⟨e0, e1⟩
  unfold maskV
  split
  · next h =>
    have hk := (hl r ⟨rank (fun j => (R (ix2 r j) : EReal)) i, h⟩).2 (by simp only [and_self])
    exact scatter_set_hit _ _ _ _ _ _ (fun _ _ => rfl) _ hk
  · next h =>
    refine (scatter_set_miss _ _ _ _ _ fun k e => ?_).trans rfl
    have hk : k = ix2 (k 0) (k 1) := by
      funext a
      match a with
      | ⟨0, _⟩ => rfl
      | ⟨1, _⟩ => rfl
    rw [hk] at e
    have := ((hl (k 0) (k 1)).1 e).2
    exact h (this ▸ (k 1).isLt)

end Cert.ReferenceIdeal.Hand

end
-- ==== Proof.RefResults.lean ====
module

public import proofs.«01_k».proof.Proof.RefMask
public import proofs.«01_k».proof.Proof.Cosine
public import proofs.«01_k».proof.Proof.Rank
public import Idealize.ShloMosaic.Lib.Routing.OpsSet
public import Idealize.ShloMosaic.Lib.Routing.OpsPair
public import Idealize.ShloMosaic.Lib.WordCmp
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Cert.Math

/-! The reference's weights and merged readout, entry by entry. -/

/-- The entry a maximum is taken at: some entry of a nonempty row comes first. -/
theorem exists_first (S : Fin 32768 → EReal) : ∃ i, rank S i = 0 ∧ S i = top S := by
  have hb : ∃ i, rank S i = 0 := by
    by_contra hc
    have h := card_rank_lt S (k := 1) (by norm_num)
    have : (Finset.univ.filter fun i => rank S i < 1) = ∅ := by
      refine Finset.filter_false_of_mem fun i _ hi => hc ⟨i, by omega⟩
    rw [this] at h
    simp at h
  obtain ⟨i, hi⟩ := hb
  refine ⟨i, hi, le_antisymm (le_fold_max S i) (fold_max_le _ _ fun j => ?_)⟩
  by_contra hlt
  have := rank_lt_rank S (i := j) (j := i) (Or.inl (not_le.mp hlt))
  omega

/-- Keeping the thirty-two first entries and sending the rest to minus infinity leaves the row's maximum. -/
theorem max_kept (S : Fin 32768 → EReal) :
    Finset.univ.fold max ⊥ (fun i => if rank S i < 32 then S i else ⊥) = top S := by
  refine le_antisymm (fold_max_le _ _ fun i => ?_) ?_
  · by_cases h : rank S i < 32
    · rw [if_pos h]; exact le_fold_max S i
    · rw [if_neg h]; exact bot_le
  · obtain ⟨i, hi, e⟩ := exists_first S
    rw [← e]
    have := le_fold_max (fun i => if rank S i < 32 then S i else ⊥) i
    rwa [if_pos (by omega)] at this

/-- The softmax of the row so masked is the stated weight. -/
theorem softmax_kept (S X : Fin 32768 → EReal) (hX : ∀ j, X j = if rank S j < 32 then S j else ⊥) (i : Fin 32768) (A : EReal)
    (hA : A = Finset.univ.fold max ⊥ X) :
    Ideal.div (Ideal.exp (X i - A)) (∑ j, Ideal.exp (X j - A)) = weight S i := by
  obtain rfl : X = fun j => if rank S j < 32 then S j else ⊥ := funext hX
  have hA' : A = top S := hA.trans (max_kept S)
  have he : ∀ j, Ideal.exp ((if rank S j < 32 then S j else ⊥) - A) = if rank S j < 32 then Ideal.exp (S j - top S) else 0 := by
    intro j
    by_cases h : rank S j < 32
    · rw [if_pos h, if_pos h, hA']
    · rw [if_neg h, if_neg h, EReal.bot_sub]
      rfl
  have hden : ∑ j, Ideal.exp ((if rank S j < 32 then S j else ⊥) - A)
      = ∑ j ∈ Finset.univ.filter (fun j => rank S j < 32), Ideal.exp (S j - top S) := by
    rw [Finset.sum_filter]
    exact Finset.sum_congr rfl fun j _ => he j
  exact congrArg₂ Ideal.div (he i) hden

/-- A masked similarity. -/
theorem maskedV_at (S : FVec Ideal S32x8x32768 .f32) (b : Fin 32) (h : Fin 8) (i : Fin 32768) :
    maskedV (maskV (placesV (rowsV S))) S (ix3 b h i)
      = if rank (fun j => (S (ix3 b h j) : EReal)) i < 32 then (S (ix3 b h i) : EReal) else ⊥ := by
  have hr : ∀ hlt, (fun j => (rowsV S (ix2 (⟨b.val * 8 + h.val, hlt⟩ : Fin 256) j) : EReal)) = fun j => S (ix3 b h j) := fun hlt => by
    funext j
    exact rowsV_at S b h j hlt
  have hlt : b.val * 8 + h.val < 256 := by omega
  have hm := maskV_at (rowsV S) ⟨b.val * 8 + h.val, hlt⟩ i
  rw [hr] at hm
  generalize maskV (placesV (rowsV S)) = Q at hm
  pointwise [maskedV]
  have hb : (id (constant (F := Ideal) S_ .f32 4286578688#32) ix0 : EReal) = ⊥ := bits_bot
  rw [hm]
  by_cases hk : rank (fun j => (S (ix3 b h j) : EReal)) i < 32
  · rw [if_pos hk, if_pos hk]; rfl
  · rw [if_neg hk, if_neg hk]; exact hb

/-- A host maximum over the last of three axes, from minus infinity, is the row's maximum. -/
theorem host_max_at {n0 n1 n2 : ℕ} (hr : (⟨3, ![n0, n1, n2]⟩ : Shape).ReducesTo [2] ⟨2, ![n0, n1]⟩)
    (X : FVec Ideal ⟨3, ![n0, n1, n2]⟩ .f32) (init : FVec Ideal ⟨0, ![]⟩ .f32) (hu) (hi : (init (Shape.Idx.first hu) : EReal) = ⊥)
    (b : Fin n0) (h : Fin n1) :
    Host.reduce (FloatOps.maximumf (F := Ideal) (φ := .f32)) X init hr hu (ix2 b h)
      = Finset.univ.fold max ⊥ (fun j => (X (ix3 b h j) : EReal)) := by
  have e : Host.reduce (FloatOps.maximumf (F := Ideal) (φ := .f32)) X init hr hu (ix2 b h)
      = Finset.univ.fold max (init (Shape.Idx.first hu) : EReal) (fun j => (X (ix3 b h j) : EReal)) := by
    pointwise
  rw [e, hi]

/-- A row's maximum. -/
theorem reducedV_at (X : FVec Ideal S32x8x32768 .f32) (b : Fin 32) (h : Fin 8) :
    (reducedV X (ix2 b h) : EReal) = Finset.univ.fold max ⊥ (fun j => (X (ix3 b h j) : EReal)) :=
  host_max_at (n0 := 32) (n1 := 8) (n2 := 32768) _ X _ _ bits_bot b h

/-- The guard leaves a maximum as it is. -/
theorem guardedV_at (A : FVec Ideal S32x8 .f32) (b : Fin 32) (h : Fin 8) : (guardedV A (ix2 b h) : EReal) = A (ix2 b h) := by
  pointwise [guardedV]
  rw [bits_bot]
  exact max_eq_right bot_le

/-- A weight, from the masked similarities and the row maxima. -/
theorem weightV_at (X : FVec Ideal S32x8x32768 .f32) (A : FVec Ideal S32x8 .f32) (b : Fin 32) (h : Fin 8) (i : Fin 32768) :
    weightV (expV X A) (ix3 b h i)
      = Ideal.div (Ideal.exp ((X (ix3 b h i) : EReal) - A (ix2 b h))) (∑ j : Fin 32768, Ideal.exp ((X (ix3 b h j) : EReal) - A (ix2 b h))) := by
  pointwise [weightV, expV]

/-- A weight of the reference. -/
theorem weightsOf_at (S : FVec Ideal S32x8x32768 .f32) (b : Fin 32) (h : Fin 8) (i : Fin 32768) :
    weightsOf S (ix3 b h i) = weight (fun j => (S (ix3 b h j) : EReal)) i := by
  have hm := fun j => maskedV_at S b h j
  unfold weightsOf
  generalize maskedV (maskV (placesV (rowsV S))) S = X at hm
  exact (weightV_at X (guardedV (reducedV X)) b h i).trans
    (softmax_kept (fun j => S (ix3 b h j)) (fun j => X (ix3 b h j)) hm i
      (guardedV (reducedV X) (ix2 b h)) ((guardedV_at (reducedV X) b h).trans (reducedV_at X b h)))

/-- A head's readout. -/
theorem readV_at (T : FVec Ideal S32x8x32768 .f32) (M : FVec Ideal S32x32768x64 .f32) (b : Fin 32) (h : Fin 8) (d : Fin 64) :
    readV T M (ix3 b h d) = ∑ i : Fin 32768, (T (ix3 b h i) : EReal) * M (ix3 b i d) := by
  pointwise [readV]

/-- Heads and coordinates number the merged vector's entries. -/
def slots : Fin 8 × Fin 64 ≃ Fin 512 where
  toFun x := ⟨x.1.val * 64 + x.2.val, by have := x.1.isLt; have := x.2.isLt; omega⟩
  invFun j := (⟨j.val / 64, by have := j.isLt; omega⟩, ⟨j.val % 64, Nat.mod_lt _ (by decide)⟩)
  left_inv x := by
    have := x.2.isLt
    refine Prod.ext (Fin.ext ?_) (Fin.ext ?_) <;> dsimp only <;> omega
  right_inv j := by
    refine Fin.ext ?_
    dsimp only
    omega

/-- The heads, merged. -/
theorem mergeV_at (O : FVec Ideal S32x8x64 .f32) (W : FVec Ideal S64x512 .f32) (bias : FVec Ideal S64 .f32) (b : Fin 32) (o : Fin 64) :
    mergeV O W bias (ix2 b o)
      = (∑ h : Fin 8, ∑ d : Fin 64, (O (ix3 b h d) : EReal) * W (ix2 o ⟨h.val * 64 + d.val, by omega⟩)) + bias (ix1 o) := by
  rw [← Fintype.sum_prod_type' (f := fun (h : Fin 8) (d : Fin 64) => (O (ix3 b h d) : EReal) * W (ix2 o ⟨h.val * 64 + d.val, by omega⟩))]
  have hs : ∑ j : Fin 512, (O (ix3 b ⟨j.val / 64, by omega⟩ ⟨j.val % 64, Nat.mod_lt _ (by decide)⟩) : EReal) * W (ix2 o j)
      = ∑ x : Fin 8 × Fin 64, (O (ix3 b x.1 x.2) : EReal) * W (ix2 o ⟨x.1.val * 64 + x.2.val, by omega⟩) := by
    refine Finset.sum_equiv slots.symm (fun _ => by simp only [Finset.mem_univ]) fun j _ => ?_
    exact congrArg (fun q => (O (ix3 b ⟨j.val / 64, _⟩ ⟨j.val % 64, _⟩) : EReal) * W (ix2 o q)) (slots.apply_symm_apply j).symm
  rw [← hs]
  pointwise [mergeV]

variable (M : FVec Ideal S32x32768x64 .f32) (K : FVec Ideal S32x8x64 .f32) (B : FVec Ideal S32x8 .f32)

/-- THE REFERENCE'S SECOND RESULT, entry by entry. -/
theorem weights_at (b : Fin 32) (h : Fin 8) (i : Fin 32768) :
    weightsOf (simV M K B) (ix3 b h i)
      = weight (sims (fun h x => K (ix3 b h x)) (fun i x => M (ix3 b i x)) (fun h => B (ix2 b h)) h) i :=
  (weightsOf_at (simV M K B) b h i).trans (congrArg (fun S => weight S i) (funext fun j => simV_at M K B b h j))

/-- THE REFERENCE'S FIRST RESULT, entry by entry. -/
theorem merged_at (W : FVec Ideal S64x512 .f32) (bias : FVec Ideal S64 .f32) (b : Fin 32) (o : Fin 64) :
    mergeV (readV (weightsOf (simV M K B)) M) W bias (ix2 b o)
      = merged (fun h x => K (ix3 b h x)) (fun i x => M (ix3 b i x)) (fun h => B (ix2 b h)) (fun o j => W (ix2 o j))
          (fun o => bias (ix1 o)) o := by
  have hr : ∀ (h : Fin 8) (d : Fin 64), (readV (weightsOf (simV M K B)) M (ix3 b h d) : EReal)
      = readout (fun h x => K (ix3 b h x)) (fun i x => M (ix3 b i x)) (fun h => B (ix2 b h)) h d := by
    intro h d
    rw [readV_at]
    unfold readout
    refine Finset.sum_congr rfl fun i _ => ?_
    rw [weights_at]
  rw [mergeV_at]
  unfold merged
  refine congrArg (fun z : EReal => z + bias (ix1 o)) ?_
  refine Finset.sum_congr rfl fun h _ => Finset.sum_congr rfl fun d _ => ?_
  rw [hr]

end Cert.ReferenceIdeal.Hand

end
-- ==== Proof.Algebraic.lean ====
module

public import proofs.«01_k».proof.Proof.Frames
public import proofs.«01_k».proof.Proof.Results
public import proofs.«01_k».proof.Proof.RefResults
public import Idealize.ShloMosaic.Lib.ReduceAll

@[expose] public section

noncomputable section

/-! The value claim: with real scales, the kernel and the reference compute the same two results. -/

namespace Cert.Claims

open Idealize.ShloMosaic Idealize.SL.Sem Cert.Math

local instance : Cert.KernelIdeal.Facts := Cert.KernelIdeal.Gen.facts
local instance : Cert.ReferenceIdeal.Facts := Cert.ReferenceIdeal.Gen.facts
local instance : Cert.Pre_beta_finite.Facts := preFacts

/-- An extended real whose absolute value is below plus infinity is a real. -/
theorem real_of_abs_lt (x : EReal) (h : max x (-x) < ⊤) : ∃ r : ℝ, x = (r : EReal) := by
  induction x with
  | bot => simp at h
  | top => simp at h
  | coe r => exact ⟨r, rfl⟩

/-- Under the precondition every scale is a real. -/
theorem scale_real (m : (ℓ : Loc Cert.KernelIdeal.nD Cert.KernelIdeal.τ Cert.KernelIdeal.sig) → Buf (Elt Ideal) ℓ)
    (hp : Cert.Pre_KernelIdeal_beta_finite m) (c : Dev Cert.KernelIdeal.nD) (b : Fin 32) (h : Fin 8) :
    ∃ r : ℝ, Cert.KernelIdeal.Hand.argScale m c b h = (r : EReal) := by
  have h0 := congrFun (hp c) ix0
  haveI : Subsingleton Cert.Pre_beta_finite.S_.Idx := ⟨fun i j => funext fun a => a.elim0⟩
  have h1 := Host.reduce_andi_all _ _ _ _ _ h0 (ix2 b h)
  apply real_of_abs_lt
  have h2 : BitVec.ofBool (decide (max (Cert.KernelIdeal.Hand.argScale m c b h) (-(Cert.KernelIdeal.Hand.argScale m c b h))
      < Ideal.ofBits .f32 0x7F800000#32)) = 1#1 := h1
  rw [bits_top] at h2
  by_contra hc
  rw [decide_eq_false hc] at h2
  exact absurd h2 (by decide)

/-- THE VALUE CLAIM. -/
theorem algebraic : Cert.algebraic_KernelIdeal_ReferenceIdeal_pre_beta_finite := by
  intro m g m' g' hp ha
  refine ⟨fun c => shapeCast Cert.KernelIdeal.S32x64 (Cert.KernelIdeal.Hand.resultO (m := m) c) Cert.KernelIdeal.Gen.facts.shapeCasts_S32x1x64_S32x64,
    fun c => shapeCast Cert.KernelIdeal.S32x8x32768 (Cert.KernelIdeal.Hand.resultW (m := m) c) Cert.KernelIdeal.Gen.facts.shapeCasts_S32x8x256x128_S32x8x32768,
    Cert.KernelIdeal.Hand.run_results m (fun c b h => scale_real m hp c b h) g, ?_⟩
  refine (θ_run Cert.ReferenceIdeal.defs _ _).mono (fun r h c => ?_) (Cert.ReferenceIdeal.Value.run (F := Ideal) m' g')
  obtain ⟨h54, h47, hrest⟩ := h c
  obtain ⟨a0, a1, a2, a3, a4⟩ := ha c
  refine ⟨h54.trans ?_, h47.trans ?_, hrest⟩
  · rw [Cert.ReferenceIdeal.Hand.res_merged, a0, a1, a2, a3, a4]
    funext y
    obtain ⟨b, o, rfl⟩ : ∃ (b : Fin 32) (o : Fin 64), y = ix2 b o := ⟨y 0, y 1, by
      funext a
      match a with
      | ⟨0, _⟩ => rfl
      | ⟨1, _⟩ => rfl⟩
    refine Eq.trans ?_ (Cert.KernelIdeal.Hand.resultO_at m c b o).symm
    exact Cert.ReferenceIdeal.Hand.merged_at _ _ _ _ _ b o
  · rw [Cert.ReferenceIdeal.Hand.res_weights, a0, a1, a2]
    funext y
    obtain ⟨b, h, i, rfl⟩ : ∃ (b : Fin 32) (h : Fin 8) (i : Fin 32768), y = ix3 b h i := ⟨y 0, y 1, y 2, by
      funext a
      match a with
      | ⟨0, _⟩ => rfl
      | ⟨1, _⟩ => rfl
      | ⟨2, _⟩ => rfl⟩
    refine Eq.trans ?_ (Cert.KernelIdeal.Hand.resultW_at m c b h i).symm
    exact Cert.ReferenceIdeal.Hand.weights_at _ _ _ b h i

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate states. -/
theorem claim : Cert.Claim := ⟨Cert.Kernel.Gen.facts, Cert.KernelIdeal.Gen.facts, Cert.ReferenceIdeal.Gen.facts, Cert.Claims.preFacts,
  Cert.Claims.frame_p, Cert.Claims.frame_pi, Cert.Claims.frame_pi_pre, Cert.Claims.frame_ri, Cert.Claims.frame_ri_pre,
  Cert.Claims.preserves, Cert.Claims.algebraic⟩

end Cert.Proof

end
